-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S_ : Shape := ⟨0, ![]⟩
abbrev S8 : Shape := ⟨1, ![8]⟩
abbrev S1 : Shape := ⟨1, ![1]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v9 : BitVec 32 := Scalar.muli v5 c8192_i32
  let c0_i32 : BitVec 32 := 0#32
  ![v9.toNat, 0]
def k0_off2 (d0 : Dev nD) (c0_i32_4 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32_3 : BitVec 32 := 8192#32
  let v11 : BitVec 32 := Scalar.muli v5 c8192_i32_3
  let v12 : BitVec 32 := Scalar.addi v11 c0_i32_4
  let c0_i32_12 : BitVec 32 := 0#32
  ![v12.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v14 : BitVec 32 := Scalar.muli v2 c4_i32_8
  let v15 : BitVec 32 := Scalar.addi c0_i32_9 v14
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_10 : BitVec 32 := 2#32
  let v16 : BitVec 32 := Scalar.muli v13 c2_i32_10
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v18 : BitVec 32 := Scalar.muli v8 c1_i32_11
  let v19 : BitVec 32 := Scalar.addi v17 v18
  v19.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let c2_i32_21 : BitVec 32 := 2#32
  let v31 : BitVec 32 := Scalar.muli v28 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v44 : BitVec 32 := Scalar.muli v2 c4_i32_30
  let v45 : BitVec 32 := Scalar.addi c0_i32_31 v44
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_27 v5
  let c2_i32_32 : BitVec 32 := 2#32
  let v46 : BitVec 32 := Scalar.muli v43 c2_i32_32
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v48 : BitVec 32 := Scalar.muli v8 c1_i32_33
  let v49 : BitVec 32 := Scalar.addi v47 v48
  v49.toNat
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v59 : BitVec 32 := Scalar.muli v2 c4_i32_40
  let v60 : BitVec 32 := Scalar.addi c0_i32_41 v59
  let c1_i32_38 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_38 v5
  let c2_i32_42 : BitVec 32 := 2#32
  let v61 : BitVec 32 := Scalar.muli v58 c2_i32_42
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v63 : BitVec 32 := Scalar.muli v8 c1_i32_43
  let v64 : BitVec 32 := Scalar.addi v62 v63
  v64.toNat
def k0_dev5 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v74 : BitVec 32 := Scalar.muli v2 c4_i32_51
  let v75 : BitVec 32 := Scalar.addi c0_i32_52 v74
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_53 : BitVec 32 := 2#32
  let v76 : BitVec 32 := Scalar.muli v73 c2_i32_53
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v78 : BitVec 32 := Scalar.muli v8 c1_i32_54
  let v79 : BitVec 32 := Scalar.addi v77 v78
  v79.toNat
def k0_dev6 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v89 : BitVec 32 := Scalar.muli v2 c4_i32_61
  let v90 : BitVec 32 := Scalar.addi c0_i32_62 v89
  let c1_i32_59 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_59 v5
  let c2_i32_63 : BitVec 32 := 2#32
  let v91 : BitVec 32 := Scalar.muli v88 c2_i32_63
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v93 : BitVec 32 := Scalar.muli v8 c1_i32_64
  let v94 : BitVec 32 := Scalar.addi v92 v93
  v94.toNat
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v104 : BitVec 32 := Scalar.muli v2 c4_i32_71
  let v105 : BitVec 32 := Scalar.addi c0_i32_72 v104
  let c1_i32_69 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.subi c1_i32_69 v5
  let c2_i32_73 : BitVec 32 := 2#32
  let v106 : BitVec 32 := Scalar.muli v103 c2_i32_73
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v108 : BitVec 32 := Scalar.muli v8 c1_i32_74
  let v109 : BitVec 32 := Scalar.addi v107 v108
  v109.toNat
def k0_dev8 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v119 : BitVec 32 := Scalar.muli v2 c4_i32_81
  let v120 : BitVec 32 := Scalar.addi c0_i32_82 v119
  let c1_i32_79 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v118 : BitVec 32 := Scalar.subi c1_i32_79 v5
  let c2_i32_83 : BitVec 32 := 2#32
  let v121 : BitVec 32 := Scalar.muli v118 c2_i32_83
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v123 : BitVec 32 := Scalar.muli v8 c1_i32_84
  let v124 : BitVec 32 := Scalar.addi v122 v123
  v124.toNat
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
  The kernel's program as two loops over the eight chunks.

  The printed body starts the copy of the device's own rows, then eight transfers to the peer, then waits
  for them all. Here the chunk is a variable: one definition per operation, a recursion for the eight sends
  and one for the eight pairs of waits, and the proof that the printed body is this program.
-/
module

public import proofs.«01_k».proof.Proof.Gen.KernelIdeal.Frame
public import proofs.«01_k».proof.Proof.Gen.KernelIdeal.Skeleton

@[expose] public section

noncomputable section

namespace Cert.AllGather

open Idealize.ShloMosaic Idealize.ShloMosaic.TcCoe
open Idealize.SL Idealize.SL.Sem
open Cert.KernelIdeal Cert.KernelIdeal.Gen

variable {F : FTy → Type} [FloatOps F]

/-- A kernel program of this module. -/
abbrev Body (F : FTy → Type) := Prog (TpuEff nD τ sig (Elt F) Λ₀ Proc.tc) PUnit.{1}

/-! ## The operands -/

/-- The array a device brings. -/
abbrev xs : Memref sig .tc .hbm S8192x1024 .f32 := Memref.whole main_arg0
/-- The gathered array. -/
abbrev gs : Memref sig .tc .hbm S16384x1024 .f32 := Memref.whole main_v1

/-- Chunk `r` starts inside the array. -/
theorem chunk_inb (r : Fin 8) : ∀ a, (![1024 * r.val, 0] : Fin 2 → Nat) a + S1024x1024.size a ≤ S8192x1024.size a :=
  Rect.inb₂ (by show 1024 * r.val + 1024 ≤ 8192; omega) (by show 0 + 1024 ≤ 1024; omega)

/-- Semaphore `r` is one of the eight. -/
theorem sem_inb (r : Fin 8) : ∀ a, (![r.val] : Fin 1 → Nat) a + S1.size a ≤ S8.size a :=
  Rect.inb₁ (by show r.val + 1 ≤ 8; omega)

/-- Rows `1024 r .. 1024 r + 1023` of the array a device brings. -/
abbrev srcChunk (r : Fin 8) : Memref sig .tc .hbm S1024x1024 .f32 :=
  xs.slice (Rect.unit (s := S8192x1024) ![1024 * r.val, 0] S1024x1024.size (chunk_inb r)) (fun _ => rfl)

/-- Where chunk `r` of device `d` goes in the gathered array. -/
abbrev dstChunk (d : Dev nD) (r : Fin 8) : Memref sig .tc .hbm S1024x1024 .f32 :=
  gs.slice (Rect.unit (s := S16384x1024) (k0_off2 d (BitVec.ofNat 32 (1024 * r.val))) S1024x1024.size (k0_off2_inb d r))
    (fun _ => rfl)

/-- Where the whole of device `d`'s array goes in the gathered array. -/
abbrev ownPart (d : Dev nD) : Memref sig .tc .hbm S8192x1024 .f32 :=
  gs.slice (Rect.unit (s := S16384x1024) (k0_off1 d) S8192x1024.size (k0_off1_inb d)) (fun _ => rfl)

/-- The semaphore of the local copy. -/
abbrev copySem : DmaSem sig := cc0_scratch0.sem
/-- The semaphore a device's send of chunk `r` completes on. -/
abbrev sendSem (r : Fin 8) : DmaSem sig :=
  ((cc0_scratch1.slice (Rect.unit (s := S8) ![r.val] S1.size (sem_inb r))).squeeze S_ squeezes_S1_S_).sem
/-- The semaphore the arrival of chunk `r` completes on. -/
abbrev recvSem (r : Fin 8) : DmaSem sig :=
  ((cc0_scratch2.slice (Rect.unit (s := S8) ![r.val] S1.size (sem_inb r))).squeeze S_ squeezes_S1_S_).sem

/-- The device the kernel addresses with chunk `r`, as printed. -/
def target (d : Dev nD) : Fin 8 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩]

/-- The other device of the pair: the same place on the first and third axis, the other place on the second. -/
def peer (d : Dev nD) : Dev nD :=
  ⟨(4 * (d.val / 4) + d.val % 2 + 2) - 2 * ((d.val / 2) % 2), by revert d; decide⟩

theorem target_eq (d : Dev nD) (r : Fin 8) : target d r = peer d := by
  fin_cases r
  exacts [Fin.ext (k0_dev1_eq d), Fin.ext (k0_dev2_eq d), Fin.ext (k0_dev3_eq d), Fin.ext (k0_dev4_eq d),
    Fin.ext (k0_dev5_eq d), Fin.ext (k0_dev6_eq d), Fin.ext (k0_dev7_eq d), Fin.ext (k0_dev8_eq d)]

theorem peer_peer (d : Dev nD) : peer (peer d) = d := by revert d; decide

/-! ## The program -/

/-- Start the copy of the device's own rows, then go on. -/
def startCopy (d : Dev nD) (k : Body F) : Body F :=
  .op (.enqueueDma xs (.here (ownPart d)) (.dma copySem) (Memref.isWhole_whole main_arg0).wordExact
    (View.wordExact_bits rfl) ⟨Or.inl rfl, trivial⟩) fun _ => k

/-- Send chunk `r` to device `p`, then go on. -/
def sendTo (p : Dev nD) (d : Dev nD) (r : Fin 8) (k : Body F) : Body F :=
  .op (.enqueueDma (srcChunk r) (.remote (Dev.tc p) (dstChunk d r) (.dma (sendSem r))) (.dma (recvSem r))
    (View.wordExact_bits rfl) (View.wordExact_bits rfl) ⟨⟨rfl, Or.inl rfl⟩, trivial⟩) fun _ => k

/-- Wait for the send of chunk `r`, then for the arrival of the peer's chunk `r`, then go on. -/
def awaitChunk (d : Dev nD) (r : Fin 8) (k : Body F) : Body F :=
  .op (.waitDma2 (sendSem r) (dstChunk d r) (srcChunk r) (View.wordExact_bits rfl) (View.wordExact_bits rfl)) fun _ =>
  .op (.waitDma2 (recvSem r) (srcChunk r) (dstChunk d r) (View.wordExact_bits rfl) (View.wordExact_bits rfl)) fun _ => k

/-- Wait for the copy of the device's own rows, then go on. -/
def awaitCopy (d : Dev nD) (k : Body F) : Body F :=
  .op (.waitDma2 copySem xs (ownPart d) (Memref.isWhole_whole main_arg0).wordExact (View.wordExact_bits rfl)) fun _ => k

/-- The sends of a list of chunks, each to the device `dest` names. -/
def sends (dest : Fin 8 → Dev nD) (d : Dev nD) : List (Fin 8) → Body F → Body F
  | [], k => k
  | r :: rs, k => sendTo (dest r) d r (sends dest d rs k)

/-- The waits for a list of chunks. -/
def waits (d : Dev nD) : List (Fin 8) → Body F → Body F
  | [], k => k
  | r :: rs, k => awaitChunk d r (waits d rs k)

/-- All eight chunks, in the order the kernel takes them. -/
abbrev allChunks : List (Fin 8) := [0, 1, 2, 3, 4, 5, 6, 7]

/-- The kernel on device `d`. -/
def program (dest : Fin 8 → Dev nD) (d : Dev nD) : Body F :=
  startCopy d (sends dest d allChunks (waits d allChunks (awaitCopy d (.ret ⟨⟩))))

set_option maxRecDepth 65536 in
/-- The printed body asks which device it is on, then runs the program there, to the devices as printed. -/
theorem body_as_printed (t : Fin cfg0.N) :
    bodyAt0 (F := F) t = .op .deviceId fun d => program (F := F) (target d) d := rfl

/-- The printed body asks which device it is on, then runs the program there, all to the peer. -/
theorem body_eq (t : Fin cfg0.N) :
    bodyAt0 (F := F) t = .op .deviceId fun d => program (F := F) (fun _ => peer d) d := by
  rw [body_as_printed]
  congr 1
  funext d
  rw [show target d = fun _ => peer d from funext (target_eq d)]

end Cert.AllGather

end
-- ==== Proof.Values.lean ====
/-
  What each part of the gathered array holds at the end, and how the parts lie in it.

  Device `d` owns a half of the rows of the gathered array and its peer the other half; the half a device
  owns is eight chunks. Every device ends with the same rule for its contents: row `i` is row `i mod 8192`
  of the array of whichever of the pair owns row `i`.
-/
module

public import proofs.«01_k».proof.Proof.Program
public import Idealize.ShloMosaic.Lib.Pipeline.ValueKit

@[expose] public section

noncomputable section

namespace Cert.AllGather

open Idealize.ShloMosaic Idealize.ShloMosaic.TcCoe
open Idealize.SL Idealize.SL.Sem
open Cert.KernelIdeal Cert.KernelIdeal.Gen

variable {F : FTy → Type}

/-- A device's place on the second axis: which half of the rows it owns. -/
def half (d : Dev nD) : Nat := (d.val / 2) % 2

theorem half_lt (d : Dev nD) : half d < 2 := Nat.mod_lt _ (by decide)
theorem half_peer (d : Dev nD) : half (peer d) = 1 - half d := by revert d; decide
theorem peer_ne (d : Dev nD) : peer d ≠ d := by revert d; decide

/-! ## Where the parts lie -/

/-- A chunk is its rows, at every column. -/
theorem mem_srcChunk (r : Fin 8) (i : S8192x1024.Idx) :
    i ∈ (srcChunk r).view.set ↔ 1024 * r.val ≤ (i 0).val ∧ (i 0).val < 1024 * r.val + 1024 := by
  refine ValueKit.mem_set_slice_whole_iff main_arg0 _ i ?_
  rw [Rect.mem_set_unit]
  refine Iff.trans Fin.forall_fin_two ?_
  have h1 : (i 1).val < 1024 := (i 1).isLt
  exact ⟨fun h => h.1, fun h => ⟨h, Nat.zero_le _, by show (i 1).val < 0 + 1024; omega⟩⟩

theorem mem_dstChunk (d : Dev nD) (r : Fin 8) (i : S16384x1024.Idx) :
    i ∈ (dstChunk d r).view.set ↔
      8192 * half d + 1024 * r.val ≤ (i 0).val ∧ (i 0).val < 8192 * half d + 1024 * r.val + 1024 := by
  refine ValueKit.mem_set_slice_whole_iff main_v1 _ i ?_
  rw [Rect.mem_set_unit, k0_off2_eq]
  refine Iff.trans Fin.forall_fin_two ?_
  have h1 : (i 1).val < 1024 := (i 1).isLt
  exact ⟨fun h => h.1, fun h => ⟨h, Nat.zero_le _, by show (i 1).val < 0 + 1024; omega⟩⟩

theorem mem_ownPart (d : Dev nD) (i : S16384x1024.Idx) :
    i ∈ (ownPart d).view.set ↔ 8192 * half d ≤ (i 0).val ∧ (i 0).val < 8192 * half d + 8192 := by
  refine ValueKit.mem_set_slice_whole_iff main_v1 _ i ?_
  rw [Rect.mem_set_unit, k0_off1_eq]
  refine Iff.trans Fin.forall_fin_two ?_
  have h1 : (i 1).val < 1024 := (i 1).isLt
  exact ⟨fun h => h.1, fun h => ⟨h, Nat.zero_le _, by show (i 1).val < 0 + 1024; omega⟩⟩

theorem srcChunk_disjoint (r r' : Fin 8) (h : r ≠ r') : Disjoint (srcChunk r).view.set (srcChunk r').view.set := by
  rw [Finset.disjoint_left]
  intro i hi hi'
  have h₁ := (mem_srcChunk r i).mp hi
  have h₂ := (mem_srcChunk r' i).mp hi'
  exact h (Fin.ext (by omega))

theorem dstChunk_disjoint (d : Dev nD) (r r' : Fin 8) (h : r ≠ r') :
    Disjoint (dstChunk d r).view.set (dstChunk d r').view.set := by
  rw [Finset.disjoint_left]
  intro i hi hi'
  have h₁ := (mem_dstChunk d r i).mp hi
  have h₂ := (mem_dstChunk d r' i).mp hi'
  exact h (Fin.ext (by omega))

/-- The eight chunks are the array. -/
theorem srcChunk_cover : (Finset.univ.biUnion fun r => (srcChunk r).view.set) = (Finset.univ : Finset S8192x1024.Idx) := by
  ext i
  have h0 : (i 0).val < 8192 := (i 0).isLt
  simp only [Finset.mem_biUnion, Finset.mem_univ, true_and, iff_true]
  obtain ⟨r, hr⟩ : ∃ r : Fin 8, r.val = (i 0).val / 1024 := ⟨⟨(i 0).val / 1024, by omega⟩, rfl⟩
  exact ⟨r, (mem_srcChunk r i).mpr (by omega)⟩

/-- The eight chunks a device sends are the half it owns. -/
theorem dstChunk_cover (d : Dev nD) : (Finset.univ.biUnion fun r => (dstChunk d r).view.set) = (ownPart d).view.set := by
  ext i
  have h0 : (i 0).val < 16384 := (i 0).isLt
  rw [Finset.mem_biUnion, mem_ownPart]
  constructor
  · rintro ⟨r, -, hr⟩
    have h : 8192 * half d + 1024 * r.val ≤ (i 0).val ∧ (i 0).val < 8192 * half d + 1024 * r.val + 1024 :=
      (mem_dstChunk d r i).mp hr
    have := r.isLt
    omega
  · rintro ⟨hlo, hhi⟩
    obtain ⟨r, hr⟩ : ∃ r : Fin 8, r.val = ((i 0).val - 8192 * half d) / 1024 :=
      ⟨⟨((i 0).val - 8192 * half d) / 1024, by omega⟩, rfl⟩
    exact ⟨r, Finset.mem_univ _, (mem_dstChunk d r i).mpr (by omega)⟩

theorem ownPart_disjoint (d : Dev nD) : Disjoint (ownPart d).view.set (ownPart (peer d)).view.set := by
  rw [Finset.disjoint_left]
  intro i hi hi'
  have h₁ := (mem_ownPart d i).mp hi
  have h₂ := (mem_ownPart (peer d) i).mp hi'
  rw [half_peer] at h₂
  have := half_lt d
  omega

/-- A device's half and its peer's are the gathered array. -/
theorem ownPart_cover (d : Dev nD) :
    (ownPart d).view.set ∪ (ownPart (peer d)).view.set = (Finset.univ : Finset S16384x1024.Idx) := by
  ext i
  have h0 : (i 0).val < 16384 := (i 0).isLt
  have := half_lt d
  refine ⟨fun _ => Finset.mem_univ _, fun _ => Finset.mem_union.mpr ?_⟩
  by_cases h : 8192 * half d ≤ (i 0).val ∧ (i 0).val < 8192 * half d + 8192
  · exact .inl ((mem_ownPart d i).mpr h)
  · refine .inr ((mem_ownPart (peer d) i).mpr ?_)
    rw [half_peer]; omega

/-! ## The final contents -/

/-- Whichever of `c` and its peer owns half `b`. -/
def owner (c : Dev nD) (b : Nat) : Dev nD := if b = half c then c else peer c

theorem owner_self (c : Dev nD) : owner c (half c) = c := if_pos rfl

theorem owner_peer (c : Dev nD) (b : Nat) (hb : b < 2) : owner (peer c) b = owner c b := by
  unfold owner
  rw [half_peer, peer_peer]
  have := half_lt c
  split <;> split <;> first | rfl | omega

/-- The memory at launch. -/
abbrev Memory (F : FTy → Type) := (ℓ : Loc nD τ sig) → Buf (Elt F) ℓ

/-- What device `c` brings. -/
abbrev brought (m : Memory F) (c : Dev nD) : Buf (Elt F) ((c : Thread nD τ).loc main_arg0) := m ((c : Thread nD τ).loc main_arg0)

/-- What the gathered array of device `c` ends with. -/
def gathered (m : Memory F) (c : Dev nD) : Buf (Elt F) ((c : Thread nD τ).loc main_v1) := fun (i : S16384x1024.Idx) =>
  brought m (owner c ((i 0).val / 8192))
    (Shape.pair (⟨(i 0).val % 8192, Nat.mod_lt _ (by decide)⟩ : Fin 8192) (⟨(i 1).val, (i 1).isLt⟩ : Fin 1024))

/-- The devices of a pair end with the same. -/
theorem gathered_peer (m : Memory F) (c : Dev nD) : gathered m (peer c) = gathered m c := by
  funext (i : S16384x1024.Idx)
  have h0 : (i 0).val < 16384 := (i 0).isLt
  unfold gathered
  rw [owner_peer c _ (by omega)]

/-- Row `8192 h + k` of the gathered array, for the half `h` device `d` owns, is row `k` of what `d` brings. -/
theorem gathered_apply (m : Memory F) (d : Dev nD) (i : S16384x1024.Idx) (j : S8192x1024.Idx)
    (h0 : (i 0).val = 8192 * half d + (j 0).val) (h1 : (i 1).val = (j 1).val) : gathered m d i = brought m d j := by
  have hj : (j 0).val < 8192 := (j 0).isLt
  unfold gathered
  rw [show (i 0).val / 8192 = half d by omega, owner_self]
  congr 1
  funext a
  refine Fin.ext ?_
  fin_cases a
  · show (i 0).val % 8192 = (j 0).val; omega
  · exact h1

/-! An element of a part, by row and column of the array. -/

theorem srcChunk_row (r : Fin 8) (j : S1024x1024.Idx) : ((srcChunk r).view.emb j 0 : Nat) = 1024 * r.val + (j 0).val :=
  ValueKit.view_emb_slice_whole_unit_val main_arg0 _ _ _ j 0
theorem srcChunk_col (r : Fin 8) (j : S1024x1024.Idx) : ((srcChunk r).view.emb j 1 : Nat) = (j 1).val :=
  (ValueKit.view_emb_slice_whole_unit_val main_arg0 _ _ _ j 1).trans (Nat.zero_add _)
theorem dstChunk_row (d : Dev nD) (r : Fin 8) (j : S1024x1024.Idx) :
    ((dstChunk d r).view.emb j 0 : Nat) = 8192 * half d + 1024 * r.val + (j 0).val :=
  (ValueKit.view_emb_slice_whole_unit_val main_v1 _ _ _ j 0).trans (congrArg (· + (j 0).val) (congrFun (k0_off2_eq d r) 0))
theorem dstChunk_col (d : Dev nD) (r : Fin 8) (j : S1024x1024.Idx) : ((dstChunk d r).view.emb j 1 : Nat) = (j 1).val :=
  (ValueKit.view_emb_slice_whole_unit_val main_v1 _ _ _ j 1).trans
    ((congrArg (· + (j 1).val) (congrFun (k0_off2_eq d r) 1)).trans (Nat.zero_add _))
theorem ownPart_row (d : Dev nD) (j : S8192x1024.Idx) : ((ownPart d).view.emb j 0 : Nat) = 8192 * half d + (j 0).val :=
  (ValueKit.view_emb_slice_whole_unit_val main_v1 _ _ _ j 0).trans (congrArg (· + (j 0).val) (congrFun (k0_off1_eq d) 0))
theorem ownPart_col (d : Dev nD) (j : S8192x1024.Idx) : ((ownPart d).view.emb j 1 : Nat) = (j 1).val :=
  (ValueKit.view_emb_slice_whole_unit_val main_v1 _ _ _ j 1).trans
    ((congrArg (· + (j 1).val) (congrFun (k0_off1_eq d) 1)).trans (Nat.zero_add _))

/-- Chunk `r` of what `d` brings, written where `d` sends it, is what is to be there. -/
theorem write_chunk (m : Memory F) (d : Dev nD) (r : Fin 8) (f : (dstChunk d r).view.ty.Contents (Elt F)) :
    ∀ i ∈ (dstChunk d r).view.set,
      (dstChunk d r).view.write (Elt F) f ((srcChunk r).view.read (Elt F) (brought m d)) Finset.univ i = gathered m d i := by
  intro i hi
  obtain ⟨j, -, rfl⟩ := Finset.mem_map.mp hi
  rw [View.write_emb_of_mem _ _ (Finset.mem_univ j)]
  exact (gathered_apply m d _ ((srcChunk r).view.emb j)
    ((dstChunk_row d r j).trans ((Nat.add_assoc _ _ _).trans (congrArg (8192 * half d + ·) (srcChunk_row r j).symm)))
    ((dstChunk_col d r j).trans (srcChunk_col r j).symm)).symm

/-- What `d` brings, written over the half it owns, is what is to be there. -/
theorem write_own (m : Memory F) (d : Dev nD) (f : (ownPart d).view.ty.Contents (Elt F)) :
    ∀ i ∈ (ownPart d).view.set,
      (ownPart d).view.write (Elt F) f (xs.view.read (Elt F) (brought m d)) Finset.univ i = gathered m d i := by
  intro i hi
  obtain ⟨j, -, rfl⟩ := Finset.mem_map.mp hi
  rw [View.write_emb_of_mem _ _ (Finset.mem_univ j)]
  exact (gathered_apply m d _ j (ownPart_row d j) (ownPart_col d j)).symm

end Cert.AllGather

end
-- ==== Proof.Protocol.lean ====
/-
  The protocol: which semaphore hands over what.

  Each device has seventeen semaphores: one for the local copy and, per chunk, one for the send and one for
  the arrival. Each is credited once and waited on once. The local copy hands back a share of the device's
  array and the half of the gathered array it owns, filled. A send hands back a share of the chunk sent. An
  arrival hands over the chunk of the gathered array the peer has filled.
-/
module

public import proofs.«01_k».proof.Proof.Values
public import Idealize.ShloMosaic.Lib.Pipeline.Launch
public import Idealize.ShloMosaic.Lib.Pipeline.Kit
public import Idealize.ShloMosaic.Lib.Tactic

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-- The ghost state: one copy of the rounds algebra. -/
abbrev Ghost : Type := UR sig nD τ

local notation "𝕄" => MT nD τ sig Unit (Elt F) ℕ Ghost ℕ

/-- Where the rounds algebra sits. -/
abbrev EG : Emb Ghost (MT nD τ sig Unit (Elt F) ℕ Ghost ℕ) := emb₁

/-! ## The cells -/

/-- A device's semaphores: the copy's, the eight sends', the eight arrivals'. -/
abbrev Key : Type := Unit ⊕ (Fin 8 ⊕ Fin 8)

abbrev copyKey : Key := .inl ()
abbrev sendKey (r : Fin 8) : Key := .inr (.inl r)
abbrev recvKey (r : Fin 8) : Key := .inr (.inr r)

/-- The semaphore of a key. -/
def semOf : Key → SemLoc sig
  | .inl _ => .dma copySem
  | .inr (.inl r) => .dma (sendSem r)
  | .inr (.inr r) => .dma (recvSem r)

theorem semOf_facts : Pipeline.OwnSemFacts cfg0.spec semOf := by decide

/-- The cell of a device's key. -/
abbrev cell (c : Dev nD) (k : Key) : GSem nD τ sig := ((c : Thread nD τ), semOf k)

theorem cell_injective : Function.Injective fun p : Dev nD × Key => cell p.1 p.2 := by
  rintro ⟨c, k⟩ ⟨c', k'⟩ h
  have h1 : c = c' := congrArg (fun g : GSem nD τ sig => g.1.1) h
  have h2 : k = k' := semOf_facts.inj (congrArg Prod.snd h)
  rw [h1, h2]

/-! ## The payloads -/

/-- Device `c`'s array, whole, at share `q`. -/
def wholeSrc (m : Memory F) (q : PosShare TreeShare) (c : Dev nD) : sProp 𝕄 :=
  xs.view.loc (c : Thread nD τ) ↦[xs.view.set]{q} brought m c

/-- Chunk `r` of device `c`'s array, at share `q`. -/
def chunkSrc (m : Memory F) (q : PosShare TreeShare) (c : Dev nD) (r : Fin 8) : sProp 𝕄 :=
  (srcChunk r).view.loc (c : Thread nD τ) ↦[(srcChunk r).view.set]{q} brought m c

/-- In the gathered array of device `c`, the half device `d` owns, holding `f`. -/
def halfDst (c d : Dev nD) (f : Buf (Elt F) ((c : Thread nD τ).loc main_v1)) : sProp 𝕄 :=
  (ownPart d).view.loc (c : Thread nD τ) ↦[(ownPart d).view.set]{fullShare} f

/-- In the gathered array of device `c`, where chunk `r` of device `d` goes, holding `f`. -/
def chunkDst (c d : Dev nD) (r : Fin 8) (f : Buf (Elt F) ((c : Thread nD τ).loc main_v1)) : sProp 𝕄 :=
  (dstChunk d r).view.loc (c : Thread nD τ) ↦[(dstChunk d r).view.set]{fullShare} f

/-- The share of its array a device reads the local copy from, -/
abbrev copyShare : PosShare TreeShare := fullShare.left
/-- and the share it sends from. -/
abbrev sendShare : PosShare TreeShare := fullShare.right

/-- What a cell hands its owner. -/
def pay (m : Memory F) (c : Dev nD) : Key → sProp 𝕄
  | .inl _ => iprop(halfDst c c (gathered m c) ∗ wholeSrc m copyShare c)
  | .inr (.inl r) => chunkSrc m sendShare c r
  | .inr (.inr r) => chunkDst c (peer c) r (gathered m c)

instance pay_storable (m : Memory F) (c : Dev nD) (k : Key) : BI.Storable (upEmb : UEmb _ 𝕄) (pay m c k) := by
  rcases k with _ | r | r
  · show BI.Storable upEmb iprop(halfDst c c (gathered m c) ∗ wholeSrc m copyShare c)
    unfold halfDst wholeSrc; infer_instance
  · show BI.Storable upEmb (chunkSrc m sendShare c r)
    unfold chunkSrc; infer_instance
  · show BI.Storable upEmb (chunkDst c (peer c) r (gathered m c))
    unfold chunkDst; infer_instance

/-- The credit of the local copy, -/
def copyN : ℕ := xs.view.dmaCredit
/-- and of a chunk's transfer. -/
def chunkN : ℕ := (srcChunk 0).view.dmaCredit

theorem whole_numel : 0 < S8192x1024.numel := by decide
theorem chunk_numel : 0 < S1024x1024.numel := by decide

theorem copyN_pos : 0 < copyN := xs.view.dmaCredit_pos whole_numel
theorem chunkN_pos : 0 < chunkN := (srcChunk 0).view.dmaCredit_pos chunk_numel

theorem ownPart_credit (d : Dev nD) : (ownPart d).view.dmaCredit = copyN := rfl
theorem srcChunk_credit (r : Fin 8) : (srcChunk r).view.dmaCredit = chunkN := rfl
theorem dstChunk_credit (d : Dev nD) (r : Fin 8) : (dstChunk d r).view.dmaCredit = chunkN := rfl

/-- The credit a cell gets. -/
def amt : Key → ℕ
  | .inl _ => copyN
  | .inr _ => chunkN

theorem amt_pos : (k : Key) → 0 < amt k
  | .inl _ => copyN_pos
  | .inr _ => chunkN_pos

/-! ## The schedule -/

/-- A machine cell is one of the protocol's. -/
abbrev IsCell (g : GSem nD τ sig) : Prop := ∃ p : Dev nD × Key, cell p.1 p.2 = g

open Classical in
/-- One round: each of the protocol's cells credited once, by one contributor. -/
def sched (m : Memory F) : Rounds.Schedule (GSem nD τ sig) Unit 𝕄 where
  duties g r := if r = 0 ∧ IsCell g then {()} else ∅
  amount g _ _ := if h : IsCell g then amt h.choose.2 else 1
  payload g _ _ := if h : IsCell g then pay m h.choose.1 h.choose.2 else iprop(emp)
  amount_pos g _ _ _ := by
    by_cases h : IsCell g
    · rw [dif_pos h]; exact amt_pos _
    · rw [dif_neg h]; exact Nat.one_pos
  unitless _ := False

instance sched_storable (m : Memory F) (g : GSem nD τ sig) (r : ℕ) (u : Unit) :
    BI.Storable (upEmb : UEmb _ 𝕄) ((sched m).payload g r u) := by
  dsimp only [sched]
  split <;> infer_instance

section Tables

variable (m : Memory F) (c : Dev nD) (k : Key)

theorem isCell : IsCell (cell c k) := ⟨(c, k), rfl⟩

theorem choose_cell : (isCell c k).choose = (c, k) := cell_injective (isCell c k).choose_spec

theorem sched_duties : (sched m).duties (cell c k) 0 = {()} := by
  dsimp only [sched]; exact if_pos ⟨rfl, isCell c k⟩

theorem sched_mem : () ∈ (sched m).duties (cell c k) 0 := by rw [sched_duties]; exact Finset.mem_singleton_self _

theorem sched_later (g : GSem nD τ sig) (r : ℕ) (hr : 0 + 1 ≤ r) : (sched m).duties g r = ∅ := by
  dsimp only [sched]; exact if_neg fun h => by omega

theorem sched_amount : (sched m).amount (cell c k) 0 () = amt k := by
  dsimp only [sched]; rw [dif_pos (isCell c k), choose_cell]

theorem sched_payload : (sched m).payload (cell c k) 0 () = pay m c k := by
  dsimp only [sched]; rw [dif_pos (isCell c k), choose_cell]

theorem sched_expect : (sched m).expect (cell c k) 0 = amt k := by
  unfold Schedule.expect Schedule.amountOf
  rw [sched_duties, Finset.sum_singleton, sched_amount]

theorem sched_rest :
    bigSep ((sched m).duties (cell c k) 0 \ ∅) (fun u => (sched m).payload (cell c k) 0 u) = pay m c k := by
  rw [Finset.sdiff_empty, sched_duties, bigSep_singleton, sched_payload]

end Tables

/-! ## The records -/

/-- Every cell's invariant, and that every cell's one round is open. -/
def records (m : Memory F) (K : Dev nD × Key → ℕ) : sProp 𝕄 :=
  iprop((bigSep Finset.univ fun p : Dev nD × Key => cellInv EG (sched m) (K p) (cell p.1 p.2))
    ∗ bigSep Finset.univ fun p : Dev nD × Key => reached EG (cell p.1 p.2) 0)

instance records_persistent (m : Memory F) (K : Dev nD × Key → ℕ) : BI.Persistent (records m K) := by
  unfold records; infer_instance

theorem records_inv (m : Memory F) (K : Dev nD × Key → ℕ) (c : Dev nD) (k : Key) :
    records m K ⊢ cellInv EG (sched m) (K (c, k)) (cell c k) := by
  unfold records
  iintro ⟨H, -⟩
  iapply (show (bigSep Finset.univ fun p : Dev nD × Key => (cellInv EG (sched m) (K p) (cell p.1 p.2) : sProp 𝕄))
      ⊢ cellInv EG (sched m) (K (c, k)) (cell c k) from bigSep_elim (Finset.mem_univ (c, k)))
  iexact H

theorem records_reached (m : Memory F) (K : Dev nD × Key → ℕ) (c : Dev nD) (k : Key) :
    records m K ⊢ reached EG (cell c k) 0 := by
  unfold records
  iintro ⟨-, H⟩
  iapply (show (bigSep Finset.univ fun p : Dev nD × Key => (reached EG (cell p.1 p.2) 0 : sProp 𝕄))
      ⊢ reached EG (cell c k) 0 from bigSep_elim (Finset.mem_univ (c, k)))
  iexact H

end Cert.AllGather

end
-- ==== Proof.Steps.lean ====
/-
  The kernel's steps, each with what it takes and what it gives, and the two loops by induction.
-/
module

public import proofs.«01_k».proof.Proof.Protocol

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ Ghost ℕ

/-- Device `c` can run `p` and end with `Q`. -/
abbrev runs (c : Dev nD) (p : Body F) (Q : PUnit → sProp 𝕄) : sProp 𝕄 :=
  wp frame (wpE (defs₀ (F := F)) Variants.none (c : Thread nD τ) none) Set.univ p Q

variable (m : Memory F) (K : Dev nD × Key → ℕ) (c : Dev nD)

/-! ## Starting transfers -/

theorem copy_amount (d : Dev nD) : (ownPart d).view.amount (.dma copySem) = copyN := rfl
theorem chunk_amount (d : Dev nD) (r : Fin 8) : (dstChunk d r).view.amount (.dma (recvSem r)) = chunkN := rfl

/-- What the local copy takes: a share of the source, the half to fill, the right to credit its cell. -/
def copyRes : sProp 𝕄 :=
  iprop(wholeSrc m copyShare c ∗ (∃ f, halfDst c c f) ∗ dutyTok EG (cell c copyKey) 0 ())

theorem wp_startCopy (k : Body F) (Q : PUnit → sProp 𝕄) :
    iprop(records m K ∗ copyRes m c)
      ⊢ iprop((cred (tallyAt (cell c copyKey) () copyN) -∗ runs c k Q) -∗ runs c (startCopy c k) Q) := by
  have hpay (f : Buf (Elt F) ((c : Thread nD τ).loc main_v1)) :
      iprop(((ownPart c).view.loc (c : Thread nD τ) ↦[(ownPart c).view.set]{fullShare}
          ((ownPart c).view.write (Elt F) f (xs.view.read (Elt F) (brought m c)) Finset.univ))
        ∗ (xs.view.loc (c : Thread nD τ) ↦[xs.view.set]{copyShare} brought m c))
      ⊢ ((sched m).payload (cell c copyKey) 0 () : sProp 𝕄) := by
    rw [sched_payload]
    unfold pay halfDst wholeSrc
    rw [pointsTo_congr (write_own m c f)]
  unfold copyRes startCopy runs
  iintro ⟨#Hrec, Hx, ⟨%f, Hf⟩, Htok⟩ Hk
  unfold wholeSrc halfDst
  iapply (Rounds.wp_copy_pointsTo Variants.none EG (sched m) (c : Thread nD τ) none (κ := K (c, copyKey)) (sem := .dma copySem)
    (sched_mem m c copyKey) () copyN (copy_amount c) (sched_amount m c copyKey) (hpay f)) $$ [Hx Hf Htok]
  · isplitr; · iapply (records_inv m K c copyKey); iexact Hrec
    isplitl [Hx]; · iexact Hx
    isplitl [Hf]; · iexact Hf
    isplitl [Htok]; · iexact Htok
    iapply (records_reached m K c copyKey); iexact Hrec
  iexact Hk

/-- What sending chunk `r` takes: a share of the chunk, the place for it at the peer, the right to credit the
    device's send cell and the peer's arrival cell. -/
def sendRes (r : Fin 8) : sProp 𝕄 :=
  iprop(chunkSrc m sendShare c r ∗ (∃ f, chunkDst (peer c) c r f)
    ∗ dutyTok EG (cell c (sendKey r)) 0 () ∗ dutyTok EG (cell (peer c) (recvKey r)) 0 ())

/-- The debt a device has for chunk `r`: the arrival at its peer. -/
abbrev debt (r : Fin 8) : CellTallies nD τ sig Unit := tallyAt (cell (peer c) (recvKey r)) () chunkN

/-- The credit a device has from the send of chunk `r`. -/
abbrev sent (r : Fin 8) : sProp 𝕄 := cred (tallyAt (cell c (sendKey r)) () chunkN)

theorem wp_sendTo (r : Fin 8) (O : CellTallies nD τ sig Unit) (W : Waits sig Unit) (k : Body F) (Q : PUnit → sProp 𝕄) :
    iprop(records m K ∗ sendRes m c r ∗ owes (c : Thread nD τ) (O + debt c r) W)
      ⊢ iprop(((sent c r ∗ owes (c : Thread nD τ) O W) -∗ runs c k Q) -∗ runs c (sendTo (peer c) c r k) Q) := by
  have hpay₁ : ((srcChunk r).view.loc (c : Thread nD τ) ↦[(srcChunk r).view.set]{sendShare} brought m c)
      ⊢ ((sched m).payload (cell c (sendKey r)) 0 () : sProp 𝕄) := by
    rw [sched_payload]; exact .rfl
  have hpay₂ (f : Buf (Elt F) ((peer c : Thread nD τ).loc main_v1)) :
      ((dstChunk c r).view.loc (peer c : Thread nD τ) ↦[(dstChunk c r).view.set]{fullShare}
        ((dstChunk c r).view.write (Elt F) f ((srcChunk r).view.read (Elt F) (brought m c)) Finset.univ))
      ⊢ ((sched m).payload (cell (peer c) (recvKey r)) 0 () : sProp 𝕄) := by
    rw [sched_payload]
    show _ ⊢ (chunkDst (peer c) (peer (peer c)) r (gathered m (peer c)) : sProp 𝕄)
    rw [peer_peer, gathered_peer]
    unfold chunkDst
    exact Entails.of_eq (pointsTo_congr (write_chunk m c r f))
  unfold sendRes sendTo runs
  iintro ⟨#Hrec, ⟨Hx, ⟨%f, Hf⟩, HtS, HtR⟩, HO⟩ Hk
  unfold chunkSrc chunkDst
  iapply (Rounds.wp_send_pointsTo Variants.none EG (sched m) (c : Thread nD τ) none
    (κ₁ := K (c, sendKey r)) (κ₂ := K (peer c, recvKey r))
    (sS := .dma (sendSem r)) (sem := .dma (recvSem r)) (sched_mem m c (sendKey r)) (sched_mem m (peer c) (recvKey r))
    () () chunkN (chunk_amount c r) (sched_amount m c (sendKey r)) (sched_amount m (peer c) (recvKey r)) O rfl hpay₁ (hpay₂ f))
    $$ [Hx Hf HO HtS HtR]
  · isplitr; · iapply (records_inv m K c (sendKey r)); iexact Hrec
    isplitr; · iapply (records_inv m K (peer c) (recvKey r)); iexact Hrec
    isplitl [Hx]; · iexact Hx
    isplitl [Hf]; · iexact Hf
    isplitl [HO]; · iexact HO
    isplitl [HtS]; · iexact HtS
    isplitr; · iapply (records_reached m K c (sendKey r)); iexact Hrec
    isplitl [HtR]; · iexact HtR
    iapply (records_reached m K (peer c) (recvKey r)); iexact Hrec
  iexact Hk

/-- The debt for a list of chunks. -/
def debts : List (Fin 8) → CellTallies nD τ sig Unit
  | [] => 0
  | r :: rs => debts rs + debt c r

/-- A resource for each chunk of a list. -/
def each (Φ : Fin 8 → sProp 𝕄) : List (Fin 8) → sProp 𝕄
  | [] => iprop(emp)
  | r :: rs => iprop(Φ r ∗ each Φ rs)

theorem wp_sends (W : Waits sig Unit) (k : Body F) (Q : PUnit → sProp 𝕄) : ∀ rs : List (Fin 8),
    iprop(records m K ∗ each (sendRes m c) rs ∗ owes (c : Thread nD τ) (debts c rs) W)
      ⊢ iprop(((each (sent c) rs ∗ owes (c : Thread nD τ) 0 W) -∗ runs c k Q) -∗ runs c (sends (fun _ => peer c) c rs k) Q)
  | [] => by
    unfold each debts sends
    iintro ⟨-, -, HO⟩ Hk
    iapply Hk
    isplitr; · iempintro
    iexact HO
  | r :: rs => by
    unfold each debts sends
    iintro ⟨#Hrec, ⟨Hr, Hrs⟩, HO⟩ Hk
    iapply (wp_sendTo m K c r (debts c rs) W) $$ [Hr HO]
    · isplitr; · iexact Hrec
      isplitl [Hr] <;> iassumption
    iintro ⟨Hs, HO⟩
    iapply (wp_sends W k Q rs) $$ [Hrs HO]
    · isplitr; · iexact Hrec
      isplitl [Hrs] <;> iassumption
    iintro ⟨Hss, HO⟩
    iapply Hk
    isplitl [Hs Hss]
    · isplitl [Hs] <;> iassumption
    iexact HO

/-! ## Waiting -/

/-- A wait on one of the device's own cells, for all it is to be credited, with nothing owed: it hands over the
    cell's payload and the closed cell. -/
theorem wp_await (key : Key) (n : ℕ) (hn : n = amt key) (W : Waits sig Unit)
    (w : TpuEff nD τ sig (Elt F) Λ₀ Proc.tc PUnit)
    (hw : ∀ J : PUnit → sProp 𝕄, wpE (defs₀ (F := F)) Variants.none (c : Thread nD τ) none Set.univ w J
      = waitSpec (c : Thread nD τ) Set.univ (semOf key) n J)
    (k : PUnit → Body F) (Q : PUnit → sProp 𝕄) :
    iprop(records m K ∗ cred (tallyAt (cell c key) () n) ∗ owes (c : Thread nD τ) 0 W ∗ atPos EG (cell c key) 0 ∅ 0)
      ⊢ iprop((((∃ W', owes (c : Thread nD τ) 0 W') ∗ pay m c key ∗ semVal (cell c key) 0) -∗ runs c (k ⟨⟩) Q)
          -∗ runs c (.op w k) Q) := by
  unfold runs
  iintro ⟨#Hrec, Hc, HO, Hat⟩ Hk
  iapply (Rounds.wp_wait_rest_token Variants.none EG (sched m) (c : Thread nD τ) none (κ := K (c, key))
      hw (Set.mem_univ _) () (O := 0) (W := W) (R := 0) (m := 0) (T := ∅)
      (by rw [Nat.zero_add, sched_expect, hn])) $$ [Hc HO Hat]
  · isplitr; · iapply (records_inv m K c key); iexact Hrec
    isplitl [Hc]; · iexact Hc
    isplitl [HO]; · iexact HO
    isplitr; · rw [MayWait_zero]; iempintro
    iexact Hat
  iintro ⟨HO, Hat, -, Hpay⟩
  ihave Hp := (Entails.of_eq (sched_rest m c key)) $$ Hpay
  iapply fupd_wp
  imod (Rounds.cell_close EG (sched m) (Set.mem_univ (K (c, key))) (fun h => h) (R := 0 + 1)
    (sched_later m (cell c key))) $$ [Hat] with Hz
  · isplitr; · iapply (records_inv m K c key); iexact Hrec
    iexact Hat
  imodintro
  iapply Hk
  isplitl [HO]; · iexists _; iexact HO
  isplitl [Hp] <;> iassumption

theorem wait_send (r : Fin 8) (J : PUnit → sProp 𝕄) :
    wpE (defs₀ (F := F)) Variants.none (c : Thread nD τ) none Set.univ
      (.waitDma2 (sendSem r) (dstChunk c r) (srcChunk r) (View.wordExact_bits rfl) (View.wordExact_bits rfl)) J
    = waitSpec (c : Thread nD τ) Set.univ (semOf (sendKey r)) chunkN J :=
  (wpE_waitDma2_eq Variants.none (c : Thread nD τ) none Set.univ J).trans
    (congrArg (fun n => waitSpec (c : Thread nD τ) Set.univ (.dma (sendSem r)) n J) (srcChunk_credit r))

theorem wait_recv (r : Fin 8) (J : PUnit → sProp 𝕄) :
    wpE (defs₀ (F := F)) Variants.none (c : Thread nD τ) none Set.univ
      (.waitDma2 (recvSem r) (srcChunk r) (dstChunk c r) (View.wordExact_bits rfl) (View.wordExact_bits rfl)) J
    = waitSpec (c : Thread nD τ) Set.univ (semOf (recvKey r)) chunkN J :=
  (wpE_waitDma2_eq Variants.none (c : Thread nD τ) none Set.univ J).trans
    (congrArg (fun n => waitSpec (c : Thread nD τ) Set.univ (.dma (recvSem r)) n J) (dstChunk_credit c r))

theorem wait_copy (J : PUnit → sProp 𝕄) :
    wpE (defs₀ (F := F)) Variants.none (c : Thread nD τ) none Set.univ
      (.waitDma2 copySem xs (ownPart c) (Memref.isWhole_whole main_arg0).wordExact (View.wordExact_bits rfl)) J
    = waitSpec (c : Thread nD τ) Set.univ (semOf copyKey) copyN J :=
  (wpE_waitDma2_eq Variants.none (c : Thread nD τ) none Set.univ J).trans
    (congrArg (fun n => waitSpec (c : Thread nD τ) Set.univ (.dma copySem) n J) (ownPart_credit c))

/-- What the waits for chunk `r` take: the credits of its send and of the arrival, and that neither is waited for yet. -/
def waitRes (r : Fin 8) : sProp 𝕄 :=
  iprop(sent c r ∗ cred (tallyAt (cell c (recvKey r)) () chunkN)
    ∗ atPos EG (cell c (sendKey r)) 0 ∅ 0 ∗ atPos EG (cell c (recvKey r)) 0 ∅ 0)

/-- What they give: the share of the chunk sent, the chunk arrived, both cells at zero. -/
def waitRet (r : Fin 8) : sProp 𝕄 :=
  iprop((pay m c (sendKey r) ∗ pay m c (recvKey r)) ∗ semVal (cell c (sendKey r)) 0 ∗ semVal (cell c (recvKey r)) 0)

theorem wp_awaitChunk (r : Fin 8) (W : Waits sig Unit) (k : Body F) (Q : PUnit → sProp 𝕄) :
    iprop(records m K ∗ waitRes c r ∗ owes (c : Thread nD τ) 0 W)
      ⊢ iprop((((∃ W', owes (c : Thread nD τ) 0 W') ∗ waitRet m c r) -∗ runs c k Q) -∗ runs c (awaitChunk c r k) Q) := by
  unfold waitRes waitRet awaitChunk
  iintro ⟨#Hrec, ⟨HcS, HcR, HatS, HatR⟩, HO⟩ Hk
  iapply (wp_await m K c (sendKey r) chunkN rfl W _
    (wait_send c r) _) $$ [HcS HO HatS]
  · isplitr; · iexact Hrec
    isplitl [HcS]; · iexact HcS
    isplitl [HO] <;> iassumption
  iintro ⟨⟨%W', HO⟩, HpS, HzS⟩
  iapply (wp_await m K c (recvKey r) chunkN rfl W' _
    (wait_recv c r) _) $$ [HcR HO HatR]
  · isplitr; · iexact Hrec
    isplitl [HcR]; · iexact HcR
    isplitl [HO] <;> iassumption
  iintro ⟨HO, HpR, HzR⟩
  iapply Hk
  isplitl [HO]; · iexact HO
  isplitl [HpS HpR]
  · isplitl [HpS] <;> iassumption
  isplitl [HzS] <;> iassumption

theorem wp_waits (k : Body F) (Q : PUnit → sProp 𝕄) : ∀ (rs : List (Fin 8)) (W : Waits sig Unit),
    iprop(records m K ∗ each (waitRes c) rs ∗ owes (c : Thread nD τ) 0 W)
      ⊢ iprop((((∃ W', owes (c : Thread nD τ) 0 W') ∗ each (waitRet m c) rs) -∗ runs c k Q) -∗ runs c (waits c rs k) Q)
  | [], W => by
    unfold each waits
    iintro ⟨-, -, HO⟩ Hk
    iapply Hk
    isplitl [HO]; · iexists W; iexact HO
    iempintro
  | r :: rs, W => by
    unfold each waits
    iintro ⟨#Hrec, ⟨Hr, Hrs⟩, HO⟩ Hk
    iapply (wp_awaitChunk m K c r W) $$ [Hr HO]
    · isplitr; · iexact Hrec
      isplitl [Hr] <;> iassumption
    iintro ⟨⟨%W', HO⟩, Hs⟩
    iapply (wp_waits k Q rs W') $$ [Hrs HO]
    · isplitr; · iexact Hrec
      isplitl [Hrs] <;> iassumption
    iintro ⟨HO, Hss⟩
    iapply Hk
    isplitl [HO]; · iexact HO
    isplitl [Hs] <;> iassumption

/-! ## The whole -/

/-- Over a list without repetition, a resource each is a resource for each member of its set. -/
theorem each_eq (Φ : Fin 8 → sProp 𝕄) : ∀ rs : List (Fin 8), rs.Nodup → each Φ rs = bigSep rs.toFinset Φ
  | [], _ => by rw [List.toFinset_nil, bigSep_empty]; rfl
  | r :: rs, h => by
    obtain ⟨hr, hrs⟩ := List.nodup_cons.mp h
    rw [List.toFinset_cons, bigSep_insert (fun h => hr (List.mem_toFinset.mp h)), ← each_eq Φ rs hrs]
    rfl

theorem each_all (Φ : Fin 8 → sProp 𝕄) : each Φ allChunks = bigSep Finset.univ Φ :=
  (each_eq Φ allChunks (by decide)).trans (congrArg (fun s => bigSep s Φ) (by decide))

/-- The debts of a list without repetition are the sum of those of its set. -/
theorem debts_eq : ∀ rs : List (Fin 8), rs.Nodup → debts c rs = ∑ r ∈ rs.toFinset, debt c r
  | [], _ => rfl
  | r :: rs, h => by
    obtain ⟨hr, hrs⟩ := List.nodup_cons.mp h
    rw [List.toFinset_cons, Finset.sum_insert (fun h => hr (List.mem_toFinset.mp h)), ← debts_eq rs hrs]
    exact add_comm _ _

theorem debts_all : debts c allChunks = ∑ r, debt c r :=
  (debts_eq c allChunks (by decide)).trans (congrArg (fun s => ∑ r ∈ s, debt c r) (by decide))

/-- What a device has at the kernel's start for chunk `r`. -/
def chunkRes (r : Fin 8) : sProp 𝕄 :=
  iprop(sendRes m c r ∗ cred (tallyAt (cell c (recvKey r)) () chunkN)
    ∗ atPos EG (cell c (sendKey r)) 0 ∅ 0 ∗ atPos EG (cell c (recvKey r)) 0 ∅ 0)

/-- What a device has at the kernel's start. -/
def startRes : sProp 𝕄 :=
  iprop((copyRes m c ∗ atPos EG (cell c copyKey) 0 ∅ 0) ∗ bigSep Finset.univ (chunkRes m c))

/-- What it has at the kernel's end. -/
def endRes : sProp 𝕄 :=
  iprop((pay m c copyKey ∗ semVal (cell c copyKey) 0) ∗ bigSep Finset.univ (waitRet m c))

theorem wp_program (W : Waits sig Unit) (Q : PUnit → sProp 𝕄) :
    iprop(records m K ∗ startRes m c ∗ owes (c : Thread nD τ) (∑ r, debt c r) W)
      ⊢ iprop((((∃ W', owes (c : Thread nD τ) 0 W') ∗ endRes m c) -∗ Q ⟨⟩) -∗ runs c (program (fun _ => peer c) c) Q) := by
  have hsplit : bigSep Finset.univ (chunkRes m c)
      = iprop(bigSep Finset.univ (sendRes m c) ∗ bigSep Finset.univ fun r : Fin 8 =>
          iprop(cred (tallyAt (cell c (recvKey r)) () chunkN)
            ∗ atPos EG (cell c (sendKey r)) 0 ∅ 0 ∗ atPos EG (cell c (recvKey r)) 0 ∅ 0) : sProp 𝕄) := by
    rw [← bigSep_sep']; rfl
  have hjoin : iprop(bigSep Finset.univ (sent c) ∗ bigSep Finset.univ fun r : Fin 8 =>
          iprop(cred (tallyAt (cell c (recvKey r)) () chunkN)
            ∗ atPos EG (cell c (sendKey r)) 0 ∅ 0 ∗ atPos EG (cell c (recvKey r)) 0 ∅ 0) : sProp 𝕄)
      = bigSep Finset.univ (waitRes c) := by
    rw [← bigSep_sep']; rfl
  unfold startRes endRes program
  rw [hsplit, ← debts_all]
  iintro ⟨#Hrec, ⟨⟨Hcopy, HatC⟩, Hsend, Hwait⟩, HO⟩ Hk
  iapply (wp_startCopy m K c) $$ [Hcopy]
  · isplitr; · iexact Hrec
    iexact Hcopy
  iintro HcC
  iapply (wp_sends m K c W _ _ allChunks) $$ [Hsend HO]
  · isplitr; · iexact Hrec
    isplitl [Hsend]; · rw [each_all]; iexact Hsend
    iexact HO
  iintro ⟨Hsent, HO⟩
  iapply (wp_waits m K c _ _ allChunks W) $$ [Hsent Hwait HO]
  · isplitr; · iexact Hrec
    isplitl [Hsent Hwait]
    · iapply (Entails.of_eq (hjoin.trans (each_all (waitRes c)).symm))
      isplitl [Hsent]; · iapply (Entails.of_eq (each_all (sent c))); iexact Hsent
      iexact Hwait
    iexact HO
  iintro ⟨⟨%W', HO⟩, Hret⟩
  unfold awaitCopy
  iapply (wp_await m K c copyKey copyN rfl W' _
    (wait_copy c) _) $$ [HcC HO HatC]
  · isplitr; · iexact Hrec
    isplitl [HcC]; · iexact HcC
    isplitl [HO] <;> iassumption
  iintro ⟨HO, Hpay, Hz⟩
  unfold runs
  rw [wp_ret]
  imodintro
  iapply Hk
  isplitl [HO]; · iexact HO
  isplitl [Hpay Hz]
  · isplitl [Hpay] <;> iassumption
  rw [← each_all]; iexact Hret

end Cert.AllGather

end
-- ==== Proof.Start.lean ====
/-
  From what the launch deals to what each device starts with, and from what each device ends with to whole arrays.

  The launch deals each device its two arrays whole. The half of the gathered array the peer is to fill, and the
  right to credit the arrivals, go to the peer: this exchange is between the devices of each pair, before any of
  them runs, so that no device needs to ask whether its peer is ready.
-/
module

public import proofs.«01_k».proof.Proof.Steps

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ Ghost ℕ

variable (m : Memory F)

/-! ## The arrays in parts -/

theorem eq_of_both {P Q : sProp 𝕄} (h : P ⊣⊢ Q) : P = Q := equiv_iff.mp ⟨h.1, h.2⟩

/-- The array a device brings, whole, is one share of it whole and the other chunk by chunk. -/
theorem in_split (c : Dev nD) :
    ((c : Thread nD τ).loc main_arg0 ↦{fullShare} brought m c : sProp 𝕄)
      = iprop(wholeSrc m copyShare c ∗ bigSep Finset.univ (chunkSrc m sendShare c)) := by
  refine (eq_of_both (pointsTo_share (PosShare.mem_left_op_right fullShare))).trans ?_
  have hw : ((c : Thread nD τ).loc main_arg0 ↦{copyShare} brought m c : sProp 𝕄) = wholeSrc m copyShare c := by
    unfold wholeSrc
    rw [View.set_whole main_arg0]
  have hc : ((c : Thread nD τ).loc main_arg0 ↦{sendShare} brought m c : sProp 𝕄) = bigSep Finset.univ (chunkSrc m sendShare c) :=
    (congrArg (fun s : Finset S8192x1024.Idx => ((c : Thread nD τ).loc main_arg0 ↦[s]{sendShare} brought m c : sProp 𝕄)) srcChunk_cover.symm).trans
      (pointsTo_biUnion (ℓ := (c : Thread nD τ).loc main_arg0) Finset.univ (fun r => (srcChunk r).view.set)
        fun r _ r' _ h => srcChunk_disjoint r r' h)
  exact congrArg₂ BI.sep hw hc

/-- The gathered array, whole, is the device's own half and the peer's, chunk by chunk. -/
theorem out_split (c : Dev nD) (f : Buf (Elt F) ((c : Thread nD τ).loc main_v1)) :
    ((c : Thread nD τ).loc main_v1 ↦{fullShare} f : sProp 𝕄)
      = iprop(halfDst c c f ∗ bigSep Finset.univ fun r => chunkDst c (peer c) r f) := by
  have hu : ((c : Thread nD τ).loc main_v1 ↦{fullShare} f : sProp 𝕄)
      = ((c : Thread nD τ).loc main_v1 ↦[(ownPart c).view.set ∪ (ownPart (peer c)).view.set]{fullShare} f) :=
    congrArg (fun s : Finset S16384x1024.Idx => ((c : Thread nD τ).loc main_v1 ↦[s]{fullShare} f : sProp 𝕄)) (ownPart_cover c).symm
  have hp : ((c : Thread nD τ).loc main_v1 ↦[(ownPart (peer c)).view.set]{fullShare} f : sProp 𝕄)
      = bigSep Finset.univ fun r => chunkDst c (peer c) r f :=
    (congrArg (fun s : Finset S16384x1024.Idx => ((c : Thread nD τ).loc main_v1 ↦[s]{fullShare} f : sProp 𝕄)) (dstChunk_cover (peer c)).symm).trans
      (pointsTo_biUnion (ℓ := (c : Thread nD τ).loc main_v1) Finset.univ (fun r => (dstChunk (peer c) r).view.set)
        fun r _ r' _ h => dstChunk_disjoint (peer c) r r' h)
  rw [hu, eq_of_both (pointsTo_union (ownPart_disjoint c)), hp]
  rfl

/-! ## Over a device's cells -/

/-- Something for each of a device's cells: for the copy's, for the sends', for the arrivals'. -/
theorem keys_split (Φ : Key → sProp 𝕄) :
    bigSep Finset.univ Φ
      = iprop(Φ copyKey ∗ (bigSep Finset.univ fun r => Φ (sendKey r)) ∗ bigSep Finset.univ fun r => Φ (recvKey r)) := by
  rw [bigSep_univ_sum, bigSep_univ_sum, bigSep_univ_of_subsingleton ()]
  rfl

/-! ## The exchange -/

/-- The launch's debts: each device owes its peer the arrival of every chunk. -/
abbrev launchDebt (c : Dev nD) : CellTallies nD τ sig Unit := ∑ r, debt c r

/-- What a device has before the exchange. -/
def dealt (c : Dev nD) : sProp 𝕄 :=
  iprop(((c : Thread nD τ).loc main_arg0 ↦{fullShare} brought m c)
    ∗ ((c : Thread nD τ).loc main_v1 ↦{fullShare} m ((c : Thread nD τ).loc main_v1))
    ∗ (bigSep Finset.univ fun k => atPos EG (cell c k) 0 ∅ 0)
    ∗ (bigSep Finset.univ fun k => dutyTok EG (cell c k) 0 ())
    ∗ Pipeline.launchCred launchDebt c)

/-- What it keeps, -/
def kept (c : Dev nD) : sProp 𝕄 :=
  iprop((wholeSrc m copyShare c ∗ bigSep Finset.univ (chunkSrc m sendShare c))
    ∗ halfDst c c (m ((c : Thread nD τ).loc main_v1))
    ∗ (atPos EG (cell c copyKey) 0 ∅ 0 ∗ (bigSep Finset.univ fun r => atPos EG (cell c (sendKey r)) 0 ∅ 0)
        ∗ bigSep Finset.univ fun r => atPos EG (cell c (recvKey r)) 0 ∅ 0)
    ∗ (dutyTok EG (cell c copyKey) 0 () ∗ bigSep Finset.univ fun r => dutyTok EG (cell c (sendKey r)) 0 ())
    ∗ bigSep Finset.univ fun r : Fin 8 => cred (tallyAt (cell c (recvKey r)) () chunkN))

/-- and what it gives its peer. -/
def given (c : Dev nD) : sProp 𝕄 :=
  iprop((bigSep Finset.univ fun r => chunkDst c (peer c) r (m ((c : Thread nD τ).loc main_v1)))
    ∗ bigSep Finset.univ fun r => dutyTok EG (cell c (recvKey r)) 0 ())

theorem launch_credit (c : Dev nD) :
    (Pipeline.launchCred launchDebt c : sProp 𝕄)
      ⊢ bigSep Finset.univ fun r : Fin 8 => cred (tallyAt (cell c (recvKey r)) () chunkN) := by
  refine (Entails.of_eq (Pipeline.launchCred_sum Finset.univ (fun r d => debt d r) c)).trans ?_
  exact bigSep_mono fun r _ => Pipeline.launchCred_tallyAt (semOf (recvKey r)) peer peer peer_peer peer_peer () chunkN c

theorem dealt_split (c : Dev nD) : dealt m c ⊢ iprop(kept m c ∗ given m c) := by
  unfold dealt kept given
  rw [in_split, out_split, keys_split, keys_split]
  iintro ⟨Hin, ⟨Hown, Hpeer⟩, Hat, ⟨HtC, HtS, HtR⟩, Hcr⟩
  isplitl [Hin Hown Hat HtC HtS Hcr]
  · isplitl [Hin]; · iexact Hin
    isplitl [Hown]; · iexact Hown
    isplitl [Hat]; · iexact Hat
    isplitl [HtC HtS]
    · isplitl [HtC] <;> iassumption
    iapply (launch_credit c); iexact Hcr
  isplitl [Hpeer] <;> iassumption

theorem kept_join (c : Dev nD) : iprop(kept m c ∗ given m (peer c)) ⊢ startRes m c := by
  have hdst : (bigSep Finset.univ fun r => chunkDst (peer c) (peer (peer c)) r (m ((peer c : Thread nD τ).loc main_v1)) : sProp 𝕄)
      ⊢ bigSep Finset.univ fun r => iprop(∃ f, chunkDst (peer c) c r f) := by
    rw [peer_peer]
    refine bigSep_mono fun r _ => ?_
    show _ ⊢ (iprop(∃ f, chunkDst (peer c) c r f) : sProp 𝕄)
    iintro H
    iexists (m ((peer c : Thread nD τ).loc main_v1))
    iexact H
  unfold kept given startRes copyRes chunkRes sendRes
  simp only [bigSep_sep']
  iintro ⟨⟨⟨Hx, Hxs⟩, Hown, ⟨HaC, HaS, HaR⟩, ⟨HtC, HtS⟩, Hcr⟩, Hdst, HtR⟩
  isplitl [Hx Hown HtC HaC]
  · isplitl [Hx Hown HtC]
    · isplitl [Hx]; · iexact Hx
      isplitl [Hown]; · iexists _; iexact Hown
      iexact HtC
    iexact HaC
  isplitl [Hxs Hdst HtS HtR]
  · isplitl [Hxs]; · iexact Hxs
    isplitl [Hdst]; · iapply hdst; iexact Hdst
    isplitl [HtS] <;> iassumption
  isplitl [Hcr]; · iexact Hcr
  isplitl [HaS] <;> iassumption

/-- The pairs' places exchanged. -/
def swap : Dev nD ≃ Dev nD := ⟨peer, peer, peer_peer, peer_peer⟩

theorem exchange : bigSep Finset.univ (dealt m) ⊢ bigSep Finset.univ (startRes m) := by
  refine (bigSep_mono fun c _ => dealt_split m c).trans ?_
  rw [bigSep_sep', bigSep_univ_equiv swap (given m), ← bigSep_sep']
  exact bigSep_mono fun c _ => kept_join m c

/-! ## The end -/

/-- What a device ends with: its array as it was, the gathered array filled, its cells at zero. -/
def final (c : Dev nD) : sProp 𝕄 :=
  iprop(((c : Thread nD τ).loc main_arg0 ↦{fullShare} brought m c)
    ∗ ((c : Thread nD τ).loc main_v1 ↦{fullShare} gathered m c)
    ∗ bigSep Finset.univ fun k => semVal (cell c k) 0)

theorem end_join (c : Dev nD) : endRes m c ⊢ final m c := by
  unfold endRes waitRet final
  rw [in_split, out_split, keys_split]
  simp only [bigSep_sep']
  unfold pay
  iintro ⟨⟨⟨Hown, Hx⟩, HzC⟩, ⟨Hxs, Hpeer⟩, HzS, HzR⟩
  isplitl [Hx Hxs]
  · isplitl [Hx] <;> iassumption
  isplitl [Hown Hpeer]
  · isplitl [Hown] <;> iassumption
  isplitl [HzC]; · iexact HzC
  isplitl [HzS] <;> iassumption

/-! ## The ghost state at launch -/

/-- All the protocol's cells. -/
def cells : Finset (GSem nD τ sig) := Finset.univ.map ⟨fun p : Dev nD × Key => cell p.1 p.2, cell_injective⟩
/-- The right to credit each of them, once. -/
def rights : Finset (GSem nD τ sig × ℕ × Unit) :=
  Finset.univ.map ⟨fun p : Dev nD × Key => (cell p.1 p.2, 0, ()), fun _ _ h => cell_injective (congrArg Prod.fst h)⟩

/-- The ghost state the run starts from. -/
def ghost₀ : Ghost := initOf cells rights

theorem over_cells (Φ : GSem nD τ sig → sProp 𝕄) : bigSep cells Φ = bigSep Finset.univ fun p : Dev nD × Key => Φ (cell p.1 p.2) := by
  unfold cells; rw [bigSep_map]; rfl

theorem over_rights (Φ : GSem nD τ sig × ℕ × Unit → sProp 𝕄) :
    bigSep rights Φ = bigSep Finset.univ fun p : Dev nD × Key => Φ (cell p.1 p.2, 0, ()) := by
  unfold rights; rw [bigSep_map]; rfl

/-- From the counters at zero and the ghost state: the records, that no cell is waited for yet, the rights. -/
theorem open_cells :
    iprop((bigSep Finset.univ fun p : Dev nD × Key => semVal (cell p.1 p.2) 0) ∗ ownU ghost₀)
      ⊢ |={Set.univ}=> iprop((∃ K, records m K)
          ∗ (bigSep Finset.univ fun p : Dev nD × Key => atPos EG (cell p.1 p.2) 0 ∅ 0)
          ∗ bigSep Finset.univ fun p : Dev nD × Key => (dutyTok EG (cell p.1 p.2) 0 () : sProp 𝕄)) := by
  have halloc : iprop((bigSep Finset.univ fun p : Dev nD × Key => semVal (cell p.1 p.2) 0)
        ∗ bigSep Finset.univ fun p : Dev nD × Key => roundState EG (sched m) (cell p.1 p.2) 0)
      ⊢ (|={Set.univ}=> iprop(∃ K : Dev nD × Key → ℕ, bigSep Finset.univ fun p => cellInv EG (sched m) (K p) (cell p.1 p.2)) : sProp 𝕄) := by
    rw [← bigSep_sep']
    have hone (p : Dev nD × Key) : iprop(semVal (cell p.1 p.2) 0 ∗ roundState EG (sched m) (cell p.1 p.2) 0)
        ⊢ (|={Set.univ}=> iprop(∃ κ : ℕ, cellInv EG (sched m) κ (cell p.1 p.2)) : sProp 𝕄) :=
      (Rounds.body_intro EG (sched m) (cell p.1 p.2)).trans inv_alloc
    refine ((bigSep_mono fun p _ => hone p).trans (bigSep_fupd _ _)).trans ?_
    exact fupd_mono (bigSep_exists_pi Finset.univ fun (p : Dev nD × Key) (κ : ℕ) => cellInv EG (sched m) κ (cell p.1 p.2))
  iintro ⟨Hz, Hu⟩
  ihave Hu' := (show (ownU ghost₀ : sProp 𝕄) ⊢ BI.own (EG (initOf cells rights)) from .rfl) $$ Hu
  imod (Rounds.fund EG (sched m) cells rights) $$ Hu' with ⟨Hst, Hr, Hat, Ht⟩
  ihave Hst' := (Entails.of_eq (over_cells fun g => roundState EG (sched m) g 0)) $$ Hst
  ihave Hr' := (Entails.of_eq (over_cells fun g => reached EG g 0)) $$ Hr
  ihave Hat' := (Entails.of_eq (over_cells fun g => atPos EG g 0 ∅ 0)) $$ Hat
  ihave Ht' := (Entails.of_eq (over_rights fun x => dutyTok EG x.1 x.2.1 x.2.2)) $$ Ht
  imod halloc $$ [Hz Hst'] with ⟨%K, Hinv⟩
  · isplitl [Hz] <;> iassumption
  imodintro
  isplitl [Hinv Hr']
  · iexists K
    unfold records
    isplitl [Hinv] <;> iassumption
  isplitl [Hat'] <;> iassumption

end Cert.AllGather

end
-- ==== Proof.Region.lean ====
/-
  The kernel's region: it has one grid point and no windows, so what it does is the kernel's program, once.
-/
module

public import proofs.«01_k».proof.Proof.Start

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ Ghost ℕ

variable (m : Memory F) (c : Dev nD)

omit [FloatOps F] in
/-- The region has no windows, so there is nothing to hold for each of them. -/
theorem no_windows (Φ : Fin cfg0.W → sProp 𝕄) : bigSep Finset.univ Φ = BI.emp :=
  BI.bigSep_empty

/-- What a device enters the region with, its debts apart: the records of all cells, and its own part. -/
def entering : sProp 𝕄 := iprop((∃ K, records m K) ∗ startRes m c)

/-- The region's data: before its one point the device owes its peer all chunks, after it nothing. -/
def dats (_ : Fin 1) (c : Dev nD) : Dat τ (Elt F) Unit ℕ Ghost ℕ cfg0 c where
  A w := Fin.elim0 w
  after w := Fin.elim0 w
  Φ t := match t with
    | ⟨0, _⟩ => entering m c
    | ⟨_ + 1, _⟩ => final m c
  q _ := fullShare
  owed t := match t with
    | ⟨0, _⟩ => launchDebt c
    | ⟨_ + 1, _⟩ => 0

/-- The kernel on device `c`, from what it enters with to what it ends with. -/
theorem wp_body (t : Fin cfg0.N) :
    iprop(entering m c ∗ ∃ W, owes (c : Thread nD τ) (launchDebt c) W)
      ⊢ runs c (bodyAt0 (F := F) t) fun _ => iprop(final m c ∗ ∃ W, owes (c : Thread nD τ) 0 W) := by
  rw [body_eq t]
  unfold runs
  rw [wp_deviceId]
  unfold entering
  iintro ⟨⟨⟨%K, #Hrec⟩, Hs⟩, ⟨%W, HO⟩⟩
  iapply (wp_program m K c W fun _ => iprop(final m c ∗ ∃ W, owes (c : Thread nD τ) 0 W)) $$ [Hs HO]
  · isplitr; · iexact Hrec
    isplitl [Hs] <;> iassumption
  iintro ⟨HO, He⟩
  isplitl [He]
  · iapply (end_join m c); iexact He
  iexact HO

theorem body_obligation : Pipeline.BodyObligation (dats (F := F) m 0 c) (defs₀ (F := F)) Variants.none () Set.univ := fun t => by
  rw [fin_N0 t, no_windows, no_windows]
  show iprop(entering m c ∗ (dats m 0 c).owesAt () t0_0.castSucc ∗ BI.emp)
    ⊢ runs c (bodyAt0 (F := F) t0_0) fun _ => iprop(final m c ∗ (dats m 0 c).owesAt () t0_0.succ ∗ BI.emp)
  have hpost : iprop(final m c ∗ ∃ W, owes (c : Thread nD τ) 0 W)
      ⊢ (iprop(final m c ∗ (dats m 0 c).owesAt () t0_0.succ ∗ BI.emp) : sProp 𝕄) := by
    unfold Dat.owesAt Pipeline.owesWithin
    rw [show (dats m 0 c).owed t0_0.succ = 0 from rfl]
    iintro ⟨Hf, ⟨%W, HO⟩⟩
    isplitl [Hf]; · iexact Hf
    isplitl [HO]
    · iexists W
      isplitr; · ipureintro; exact fun _ _ => Or.inl trivial
      iexact HO
    iempintro
  refine BIBase.Entails.trans ?_ ((wp_body m c t0_0).trans (wp_mono _ _ _ fun _ => hpost))
  unfold Dat.owesAt Pipeline.owesWithin
  rw [show (dats m 0 c).owed t0_0.castSucc = launchDebt c from rfl]
  iintro ⟨He, ⟨%W, -, HO⟩, -⟩
  isplitl [He]; · iexact He
  iexists W; iexact HO

/-! ## The region, entered and left -/

/-- The program's body table names no variant. -/
abbrev vars : Variants := Variants.lift Variants.none

/-- The device's storage the kernel does not touch. -/
def aside : sProp 𝕄 :=
  iprop(scopedBufs (c.tc : Thread nD τ) ∗ Pipeline.idleSems0 cfgs cellOf_inj 0 semOf_facts c)

/-- What a device holds before the program's one operation, -/
def before : sProp 𝕄 := iprop(aside c ∗ entering m c ∗ owes (c.tc : Thread nD τ) (launchDebt c) ∅)

/-- and after it: both arrays, and its counters at zero. -/
def after : sProp 𝕄 :=
  iprop(((c : Thread nD τ).loc main_arg0 ↦{fullShare} brought m c)
    ∗ ((c : Thread nD τ).loc main_v1 ↦{fullShare} gathered m c)
    ∗ scopedSems0 (c.tc : Thread nD τ))

omit [FloatOps F] in
/-- Leaving: the cells the kernel used and those it did not make up all its counters. -/
theorem leave :
    iprop(final m c ∗ Pipeline.cellsSems0 cfgs 0 c ∗ Dat.staging cfg0 c ∗ Pipeline.idleSems0 cfgs cellOf_inj 0 semOf_facts c)
      ⊢ (iprop((((c : Thread nD τ).loc main_arg0 ↦{fullShare} brought m c)
            ∗ ((c : Thread nD τ).loc main_v1 ↦{fullShare} gathered m c))
          ∗ scopedSems0 (c.tc : Thread nD τ) ∗ scopedBufs (c.tc : Thread nD τ)) : sProp 𝕄) := by
  rw [Pipeline.scopedSems0_split cfgs cellOf_inj 0 winFacts0.to₀ semOf_facts c,
    Pipeline.scopedBufs_split cfgs 0 winFacts0.to₀.stage_scoped winFacts0.to₀.stage_inj stage_whole0 c,
    scopedRest0_eq]
  unfold final
  iintro ⟨⟨Hx, Hg, Hz⟩, Hcells, Hst, Hidle⟩
  isplitl [Hx Hg]
  · isplitl [Hx] <;> iassumption
  isplitl [Hz Hcells Hidle]
  · isplitl [Hz Hcells]
    · isplitl [Hcells]; · iexact Hcells
      iapply (show (bigSep Finset.univ fun k => semVal (cell c k) 0 : sProp 𝕄) ⊢ Pipeline.ownSems0 semOf c from .rfl)
      iexact Hz
    iexact Hidle
  isplitl [Hst]; · iexact Hst
  iempintro

/-- The program is the region alone. -/
theorem main_eq : main (F := F) c = .op (.customCall (Pipeline.entry 0) ()) fun _ => .ret ⟨⟩ := rfl

/-- The region, from the device's debts, what it enters with and the storage it does not touch, to both arrays. -/
theorem wp_region (k : PUnit → Prog (TpuEff nD τ sig (Elt F) (Pipeline.Sig Λ₀ (Fin 1) fun p => (pcfgs (F := F) p).Adm) .tc) PUnit)
    (Q : PUnit → sProp 𝕄) :
    iprop(Pipeline.EntryPre (Pipeline.pin (pcfgs (F := F)) fun p => (cfgs p).toPCfg_adm) (dats m) () EG (fun _ => 0) 0 c
        ∗ Pipeline.prefHeld (pcfgs (F := F) 0).pre c (fun _ => fullShare) ((cfgs 0).toPCfg_adm (Val := Elt F)).1
        ∗ entering m c ∗ Pipeline.idleSems0 cfgs cellOf_inj 0 semOf_facts c ∗ scopedBufs (c.tc : Thread nD τ))
      ⊢ iprop(((Pipeline.EntryPost (Pipeline.pin (pcfgs (F := F)) fun p => (cfgs p).toPCfg_adm) (dats m) () 0 c
            ∗ (((c : Thread nD τ).loc main_arg0 ↦{fullShare} brought m c)
              ∗ ((c : Thread nD τ).loc main_v1 ↦{fullShare} gathered m c))
            ∗ scopedSems0 (c.tc : Thread nD τ) ∗ scopedBufs (c.tc : Thread nD τ))
          -∗ wp frame (wpE (Pipeline.defs (pcfgs (F := F)) defs₀) vars (c.tc : Thread nD τ) none) Set.univ (k ⟨⟩) Q)
        -∗ wp frame (wpE (Pipeline.defs (pcfgs (F := F)) defs₀) vars (c.tc : Thread nD τ) none) Set.univ
            (.op (.customCall (Pipeline.entry 0) ()) k) Q) :=
  Pipeline.wp_customCall_entry_frame (fun p => (cfgs p).toPCfg) (fun p => (cfgs p).toPCfg_adm) (dats m) () EG
      (fun _ => 0) cellOf_inj (0 : Fin 1) defs₀ Variants.none (fun _ => fullShare) c Set.univ (fun w => Fin.elim0 w)
      (body_obligation m c).loose block_pos0 none (fun u h => nomatch h)
      (X := entering m c) (R := Pipeline.scopedRest cfg0.spec c)
      (I := Pipeline.idleSems0 cfgs cellOf_inj 0 semOf_facts c)
      (Entails.of_eq (Pipeline.scopedBufs_split cfgs 0 winFacts0.to₀.stage_scoped winFacts0.to₀.stage_inj stage_whole0 c))
      (by
        show _ ⊢ entering m c
        iintro ⟨H, -⟩; iexact H)
      (leave m c)

/-- What the region asks for besides, of a device that owes `launchDebt`: nothing. -/
theorem entry_pre :
    (owes (c.tc : Thread nD τ) (launchDebt c) ∅ : sProp 𝕄)
      ⊢ iprop(Pipeline.EntryPre (Pipeline.pin (pcfgs (F := F)) fun p => (cfgs p).toPCfg_adm) (dats m) () EG (fun _ => 0) 0 c
        ∗ Pipeline.prefHeld (pcfgs (F := F) 0).pre c (fun _ => fullShare) ((cfgs 0).toPCfg_adm (Val := Elt F)).1) := by
  unfold Pipeline.EntryPre Pipeline.PerCore.EntryPre Dat.owesAt Pipeline.owesWithin Dat.arrays
    Pipeline.PerCore.cellsWaits Pipeline.PerCore.cellsInit Pipeline.PerCore.toksInit
    Pipeline.PerCore.RDat.cellsWaits Pipeline.PerCore.RDat.cellsInit
  rw [show (dats m 0 c).owed 0 = launchDebt c from rfl]
  iintro HO
  isplitl [HO]
  · isplitr
    · iapply (Entails.of_eq (no_windows _).symm); iempintro
    isplitl [HO]
    · iexists ∅
      isplitr; · ipureintro; rw [Finset.coe_empty]; exact Set.empty_subset _
      iexact HO
    isplitr
    · iapply (Entails.of_eq (no_windows _).symm); iempintro
    isplitr
    · iapply (Entails.of_eq (no_windows _).symm); iempintro
    iapply (Entails.of_eq (no_windows _).symm); iempintro
  iapply (show (BI.emp : sProp 𝕄) ⊢ Pipeline.prefHeld (pcfgs (F := F) 0).pre c (fun _ => fullShare) ((cfgs 0).toPCfg_adm (Val := Elt F)).1
    from Entails.of_eq (BI.bigSep_empty).symm)
  iempintro

/-- What it leaves besides: that nothing is owed. -/
theorem entry_post :
    Pipeline.EntryPost (Pipeline.pin (pcfgs (F := F)) fun p => (cfgs p).toPCfg_adm) (dats m) () 0 c
      ⊢ (iprop(∃ W, owes (c.tc : Thread nD τ) 0 W) : sProp 𝕄) := by
  unfold Pipeline.EntryPost Pipeline.PerCore.EntryPost Dat.owesAt Pipeline.owesWithin
  rw [show (dats m 0 c).owed (Fin.last _) = 0 from rfl]
  iintro ⟨-, ⟨%W, -, HO⟩⟩
  iexists W; iexact HO

theorem wp_main :
    before m c ⊢ wp frame (wpE (defs (F := F)) vars (c.tc : Thread nD τ) none) Set.univ (main (F := F) c)
      fun _ => post (liftTc (after m) BI.emp) (c.tc : Thread nD τ) := by
  rw [main_eq]
  unfold before aside defs
  iintro ⟨⟨Hsc, Hidle⟩, He, HO⟩
  ihave Hpre := (entry_pre m c) $$ HO
  icases Hpre with ⟨Hpre, Hpf⟩
  iapply (wp_region m c (fun _ => .ret ⟨⟩) fun _ => post (liftTc (after m) BI.emp) (c.tc : Thread nD τ)) $$ [He Hidle Hsc Hpre Hpf]
  · isplitl [Hpre]; · iexact Hpre
    isplitl [Hpf]; · iexact Hpf
    isplitl [He]; · iexact He
    isplitl [Hidle] <;> iassumption
  iintro ⟨Hpost, ⟨Hx, Hg⟩, Hz, -⟩
  ihave HO := (entry_post m c) $$ Hpost
  rw [wp_ret]; imodintro
  unfold post after
  simp only [liftTc_tc]
  isplitr [HO]
  · isplitl [Hx]; · iexact Hx
    isplitl [Hg] <;> iassumption
  iexact HO

end Cert.AllGather

end
-- ==== Proof.Launch.lean ====
/-
  The whole run: what the launch deals, each device's program, and the end read off the final state.
-/
module

public import proofs.«01_k».proof.Proof.Region

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ Ghost ℕ

variable (m : Memory F) (ρ : Dev nD → PrngReg)

/-! ## What the launch deals -/

/-- A device's part of the launch, as the exchange and the cells need it. -/
def part (c : Dev nD) : sProp 𝕄 :=
  iprop(aside c ∗ owes (c.tc : Thread nD τ) (launchDebt c) ∅
    ∗ (bigSep Finset.univ fun k => semVal (cell c k) 0)
    ∗ ((c : Thread nD τ).loc main_arg0 ↦{fullShare} brought m c)
    ∗ ((c : Thread nD τ).loc main_v1 ↦{fullShare} m ((c : Thread nD τ).loc main_v1))
    ∗ Pipeline.launchCred launchDebt c)

omit [FloatOps F] in
theorem arrays_split (c : Dev nD) :
    (unscopedBufs c fun b => m ((c.tc : Thread nD τ).loc b) : sProp 𝕄)
      ⊢ iprop(((c : Thread nD τ).loc main_arg0 ↦{fullShare} brought m c)
        ∗ ((c : Thread nD τ).loc main_v1 ↦{fullShare} m ((c : Thread nD τ).loc main_v1))) := by
  refine (Entails.of_eq (Pipeline.unscopedBufs_split cfgs 0 winFacts0.to₀.arr_unscoped winFacts0.arr_inj c _)).trans ?_
  rw [unscopedRest0_eq]
  iintro ⟨-, H⟩
  iexact H

omit [FloatOps F] in
theorem part_intro (c : Dev nD) :
    coreInit (Ix := Unit) (Name := ℕ) (U := Ghost) (Lvl := ℕ) (Pipeline.owing launchDebt) 0 (⟨m, fun _ => 0, ρ⟩ : MemSt nD τ sig (Elt F)) (c.tc : Thread nD τ)
      ⊢ part m c := by
  refine (Pipeline.coreInit_boundary_owing launchDebt m ρ c).trans ?_
  unfold part aside boundary
  rw [Pipeline.scopedSems0_split cfgs cellOf_inj 0 winFacts0.to₀ semOf_facts c]
  iintro ⟨⟨Hsc, ⟨⟨-, Hz⟩, Hidle⟩, -⟩, Hbufs, -, HO, -, -, Hcr⟩
  ihave H := (arrays_split m c) $$ Hbufs
  icases H with ⟨Hx, Hg⟩
  isplitl [Hsc Hidle]
  · isplitl [Hsc] <;> iassumption
  isplitl [HO]; · iexact HO
  isplitl [Hz]
  · iapply (show (Pipeline.ownSems0 semOf c : sProp 𝕄) ⊢ bigSep Finset.univ fun k => semVal (cell c k) 0 from .rfl)
    iexact Hz
  isplitl [Hx]; · iexact Hx
  isplitl [Hg] <;> iassumption

omit [FloatOps F] in
/-- Something for every cell of the machine is something for every device's cells. -/
theorem over_devices (Φ : Dev nD × Key → sProp 𝕄) :
    bigSep Finset.univ Φ = bigSep Finset.univ fun c => bigSep Finset.univ fun k => Φ (c, k) := bigSep_univ_prod Φ

omit [FloatOps F] in
theorem deal :
    iprop((bigSep Finset.univ fun c : Dev nD =>
        coreInit (Ix := Unit) (Name := ℕ) (U := Ghost) (Lvl := ℕ) (Pipeline.owing launchDebt) 0 (⟨m, fun _ => 0, ρ⟩ : MemSt nD τ sig (Elt F)) (c.tc : Thread nD τ))
        ∗ ownU ghost₀)
      ⊢ |={Set.univ}=> (bigSep Finset.univ (before m) : sProp 𝕄) := by
  have hparts : (bigSep Finset.univ fun c : Dev nD =>
        coreInit (Ix := Unit) (Name := ℕ) (U := Ghost) (Lvl := ℕ) (Pipeline.owing launchDebt) 0 (⟨m, fun _ => 0, ρ⟩ : MemSt nD τ sig (Elt F)) (c.tc : Thread nD τ))
      ⊢ (bigSep Finset.univ (part m) : sProp 𝕄) := bigSep_mono fun c _ => part_intro m ρ c
  have hdeal : iprop((bigSep Finset.univ fun c : Dev nD => ((c : Thread nD τ).loc main_arg0 ↦{fullShare} brought m c))
        ∗ (bigSep Finset.univ fun c : Dev nD => ((c : Thread nD τ).loc main_v1 ↦{fullShare} m ((c : Thread nD τ).loc main_v1)))
        ∗ (bigSep Finset.univ fun c : Dev nD => bigSep Finset.univ fun k => atPos EG (cell c k) 0 ∅ 0)
        ∗ (bigSep Finset.univ fun c : Dev nD => bigSep Finset.univ fun k => dutyTok EG (cell c k) 0 ())
        ∗ bigSep Finset.univ fun c : Dev nD => Pipeline.launchCred launchDebt c)
      ⊢ (bigSep Finset.univ (startRes m) : sProp 𝕄) := by
    refine BIBase.Entails.trans ?_ (exchange m)
    unfold dealt
    simp only [bigSep_sep']
    exact .rfl
  iintro ⟨Hc, Hu⟩
  ihave Hc := hparts $$ Hc
  ihave Hc := (show bigSep Finset.univ (part m) ⊢ (iprop((bigSep Finset.univ fun c : Dev nD => aside c)
      ∗ (bigSep Finset.univ fun c : Dev nD => owes (c.tc : Thread nD τ) (launchDebt c) ∅)
      ∗ (bigSep Finset.univ fun c : Dev nD => bigSep Finset.univ fun k => semVal (cell c k) 0)
      ∗ (bigSep Finset.univ fun c : Dev nD => ((c : Thread nD τ).loc main_arg0 ↦{fullShare} brought m c))
      ∗ (bigSep Finset.univ fun c : Dev nD => ((c : Thread nD τ).loc main_v1 ↦{fullShare} m ((c : Thread nD τ).loc main_v1)))
      ∗ bigSep Finset.univ fun c : Dev nD => Pipeline.launchCred launchDebt c) : sProp 𝕄) from by
    unfold part; simp only [bigSep_sep']; exact .rfl) $$ Hc
  icases Hc with ⟨Ha, HO, Hz, Hx, Hg, Hcr⟩
  imod (open_cells m) $$ [Hz Hu] with ⟨#Hrec, Hat, Ht⟩
  · isplitl [Hz]
    · iapply (Entails.of_eq (over_devices fun p => semVal (cell p.1 p.2) 0).symm); iexact Hz
    iexact Hu
  ihave Hat := (Entails.of_eq (over_devices fun p => atPos EG (cell p.1 p.2) 0 ∅ 0)) $$ Hat
  ihave Ht := (Entails.of_eq (over_devices fun p => dutyTok EG (cell p.1 p.2) 0 ())) $$ Ht
  ihave Hs := hdeal $$ [Hx Hg Hat Ht Hcr]
  · isplitl [Hx]; · iexact Hx
    isplitl [Hg]; · iexact Hg
    isplitl [Hat]; · iexact Hat
    isplitl [Ht] <;> iassumption
  imodintro
  unfold before entering
  iapply (Entails.of_eq (show (iprop((bigSep Finset.univ fun c : Dev nD => aside c)
      ∗ ((bigSep Finset.univ fun _ : Dev nD => iprop(∃ K, records m K)) ∗ bigSep Finset.univ (startRes m))
      ∗ bigSep Finset.univ fun c : Dev nD => owes (c.tc : Thread nD τ) (launchDebt c) ∅) : sProp 𝕄) = _ from by
    simp only [← bigSep_sep']))
  isplitl [Ha]; · iexact Ha
  isplitl [Hs]
  · isplitr
    · iapply (BI.bigSep_intro_persistent (S := Finset.univ) fun (_ : Dev nD) _ => (BI.Entails.refl (iprop(∃ K, records m K) : sProp 𝕄)))
      iexact Hrec
    iexact Hs
  iexact HO

/-! ## The end -/

omit [FloatOps F] in
/-- A device's end, read against the final state. -/
theorem read_end (c : Dev nD) (s : Phys nD τ sig (Elt F)) :
    iprop(after m c ∗ SI s) ⊢ |={Set.univ}=> (iprop(⌜(s.mem.mem ((c.tc : Thread nD τ).loc main_arg0) = brought m c
        ∧ s.mem.mem ((c.tc : Thread nD τ).loc main_v1) = gathered m c)
      ∧ ∀ sm : SemLoc sig, sm.isScoped .tc = true → s.mem.sem ((c.tc : Thread nD τ), sm) = 0⌝ ∗ SI s) : sProp 𝕄) := by
  have hread (ℓ : Loc nD τ sig) (f : Buf (Elt F) ℓ) :
      iprop((ℓ ↦{fullShare} f) ∗ SI s) ⊢ (iprop(⌜s.mem.mem ℓ = f⌝ ∗ SI s) : sProp 𝕄) := by
    have h := pointsTo_read_all (Finset.univ : Finset Unit) (fun _ => ℓ) (fun _ => f) s fullShare
      (Ix := Unit) (Name := ℕ) (U := Ghost) (Lvl := ℕ)
    rw [bigSep_univ_of_subsingleton ()] at h
    refine h.trans ?_
    iintro ⟨%h, H⟩
    isplitr; · ipureintro; exact h () (Finset.mem_univ _)
    iexact H
  unfold after
  iintro ⟨⟨Hx, Hg, Hz⟩, HS⟩
  ihave %hz := (tcScoped_read_pers c s) $$ [Hz HS]
  · isplitl [Hz] <;> iassumption
  ihave H := (hread _ _) $$ [Hx HS]
  · isplitl [Hx] <;> iassumption
  icases H with ⟨%hx, HS⟩
  ihave H := (hread _ _) $$ [Hg HS]
  · isplitl [Hg] <;> iassumption
  icases H with ⟨%hg, HS⟩
  imodintro
  isplitr
  · ipureintro; exact ⟨⟨hx, hg⟩, hz⟩
  iexact HS

/-- From any memory with the counters at zero, every fair execution of the program on the eight devices ends; then
    each device's own array is as it was, its gathered array holds both arrays of its pair, and every counter is
    zero again. -/
theorem run_main :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v1) = gathered m c)
      ∧ r.2.sem = fun _ => 0) := by
  refine (θ_run (defs (F := F)) _ _).mono
    (Q := fun r => (∀ c : Dev nD, (r.2.mem ((c.tc : Thread nD τ).loc main_arg0) = brought m c
        ∧ r.2.mem ((c.tc : Thread nD τ).loc main_v1) = gathered m c)
      ∧ ∀ sm : SemLoc sig, sm.isScoped .tc = true → r.2.sem ((c.tc : Thread nD τ), sm) = 0)
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu (Ix := Unit) (Name := ℕ) (U := Ghost) (Lvl := ℕ) (defs (F := F)) _ _ _
      (reflect_intro_fupd_tc_sems (X := Unit) vars (Pipeline.owing launchDebt) 0 (noBookings fun _ => le_rfl)
        (Pipeline.owing_of_ne launchDebt) ghost₀ (fun _ => before m) (fun _ => after m) (fun _ => iprop(emp)) Set.univ
        ?_ (fun _ c => wp_main m c) fun _ => ?_))
  · refine (deal m ρ).trans (fupd_mono ?_)
    iintro H
    iexists ()
    isplitl [H]; · iexact H
    iempintro
  · iintro ⟨H, -, Hsc⟩ %s HS
    ihave %hsc := (scSems_read_zero m ρ s) $$ [Hsc HS]
    · isplitl [Hsc] <;> iassumption
    imod (posts_fupd Finset.univ (read_end m) s) $$ [H HS] with %h
    · isplitl [H] <;> iassumption
    imodintro
    ipureintro
    exact ⟨fun c => h c (Finset.mem_univ c), hsc⟩

end Cert.AllGather

end
-- ==== Proof.Whole.lean ====
/-
  The gathered array is the whole array: if each device brings the half of one array that its place on the second
  mesh axis names, then what every device ends with is that array.
-/
module

public import proofs.«01_k».proof.Proof.Values
public import Idealize.ShloMosaic.Lib.Layout

@[expose] public section

noncomputable section

namespace Cert.AllGather

open Idealize.ShloMosaic Idealize.ShloMosaic.TcCoe
open Idealize.SL Idealize.SL.Sem
open Cert.KernelIdeal Cert.KernelIdeal.Gen

variable {F : FTy → Type}

/-- The block a device's coordinates name, by rows and by columns. -/
abbrev block (c : Dev nD) := Layout.meshBlock [2, 2, 2] ![[1], []] c

theorem block_row (c : Dev nD) : (block c 0).val = half c := by revert c; decide
theorem block_col (c : Dev nD) : (block c 1).val = 0 := by revert c; decide

theorem half_owner (c : Dev nD) (b : Nat) (hb : b < 2) : half (owner c b) = b := by
  unfold owner
  have := half_lt c
  split
  · omega
  · rw [half_peer]; omega

theorem gathered_whole (m : Memory F) (a : S16384x1024.Idx → Elt F .f32)
    (h : ∀ c : Dev nD, brought m c = Layout.blockN ⟨2, ![8192, 1024]⟩ ⟨2, ![16384, 1024]⟩ (block c) a) (c : Dev nD) :
    gathered m c = a := by
  funext (i : S16384x1024.Idx)
  have h0 : (i 0).val < 16384 := (i 0).isLt
  unfold gathered
  rw [h, Layout.blockN_apply]
  congr 1
  funext b
  refine Fin.ext ?_
  rw [Layout.TilesN.idx_val]
  fin_cases b
  · show (block (owner c ((i 0).val / 8192)) 0).val * 8192 + (i 0).val % 8192 = (i 0).val
    rw [block_row, half_owner _ _ (by omega)]
    omega
  · show (block (owner c ((i 0).val / 8192)) 1).val * 1024 + (i 1).val = (i 1).val
    rw [block_col]
    omega

end Cert.AllGather

end
-- ==== Proof.Reference.lean ====
/-
  The reference's run: it does nothing, so it ends with its argument as it was, which is also its result.
-/
module

public import proofs.«01_k».proof.Proof.Gen.ReferenceIdeal
public import Idealize.ShloMosaic.Lib.Rounds
public import Idealize.ShloMosaic.Lib.Pipeline.Frame
public import Idealize.ShloMosaic.Lib.Quiescent
public import Idealize.ShloMosaic.Adequacy

@[expose] public section

noncomputable section

namespace Cert.WholeArray

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal

variable {F : FTy → Type} [FloatOps F]

/-- No cell has a protocol here. -/
abbrev Ghost := UR sig nD τ

local notation "𝕄" => MT nD τ sig Unit (Elt F) ℕ Ghost ℕ

variable (m : (ℓ : Loc nD τ sig) → Buf (Elt F) ℓ) (ρ : Dev nD → PrngReg)

/-- The array, as it was. -/
def kept (c : Dev nD) : sProp 𝕄 := (c : Thread nD τ).loc main_arg0 ↦{fullShare} m ((c : Thread nD τ).loc main_arg0)

/-- Nobody owes anything. -/
abbrev noDebt (_ : Dev nD) : CellTallies nD τ sig Unit := 0

omit [FloatOps F] in
theorem kept_intro (c : Dev nD) :
    coreInit (Ix := Unit) (Name := ℕ) (U := Ghost) (Lvl := ℕ) (Pipeline.owing noDebt) 0 (⟨m, fun _ => 0, ρ⟩ : MemSt nD τ sig (Elt F)) (c.tc : Thread nD τ)
      ⊢ iprop(kept m c ∗ owes (c.tc : Thread nD τ) 0 ∅) := by
  refine (Pipeline.coreInit_boundary_owing noDebt m ρ c).trans ?_
  unfold unscopedBufs kept
  iintro ⟨-, Hbufs, -, HO, -⟩
  isplitl [Hbufs]
  · iapply (show (bigSep (Finset.univ.filter fun b : Ref sig .tc => ¬ b.isScoped) fun b =>
        ((c.tc : Thread nD τ).loc b) ↦{fullShare} m ((c.tc : Thread nD τ).loc b))
      ⊢ ((c.tc : Thread nD τ).loc main_arg0 ↦{fullShare} m ((c.tc : Thread nD τ).loc main_arg0) : sProp 𝕄) from
      bigSep_elim (Finset.mem_filter.mpr ⟨Finset.mem_univ _, by decide⟩))
    iexact Hbufs
  iexact HO

theorem run_main :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) := by
  refine (θ_run (defs (F := F)) _ _).mono
    (Q := fun r => ∀ c ∈ (Finset.univ : Finset (Dev nD)), r.2.mem ((c.tc : Thread nD τ).loc main_arg0) = m ((c.tc : Thread nD τ).loc main_arg0))
    (fun r hr => ⟨fun c => hr c (Finset.mem_univ c), sem_eq_zero_of_no_sems (by decide) r.2⟩)
    (adequate_tpu (Ix := Unit) (Name := ℕ) (U := Ghost) (Lvl := ℕ) (defs (F := F)) _ _ _
      (reflect_intro_fupd_tc_sems (X := Unit) (Variants.lift Variants.none) (Pipeline.owing noDebt) 0 (noBookings fun _ => le_rfl)
        (Pipeline.owing_of_ne noDebt) (initOf ∅ ∅) (fun _ c => iprop(kept m c ∗ owes (c.tc : Thread nD τ) 0 ∅)) (fun _ => kept m)
        (fun _ => iprop(emp)) Set.univ ?_ (fun _ c => ?_) fun _ => ?_))
  · have h : (bigSep Finset.univ fun c : Dev nD =>
        coreInit (Ix := Unit) (Name := ℕ) (U := Ghost) (Lvl := ℕ) (Pipeline.owing noDebt) 0 (⟨m, fun _ => 0, ρ⟩ : MemSt nD τ sig (Elt F)) (c.tc : Thread nD τ))
        ⊢ (bigSep Finset.univ fun c : Dev nD => iprop(kept m c ∗ owes (c.tc : Thread nD τ) 0 ∅) : sProp 𝕄) :=
      bigSep_mono fun c _ => kept_intro m ρ c
    iintro ⟨H, -⟩
    imodintro
    iexists ()
    isplitl [H]; · iapply h; iexact H
    iempintro
  · rw [show main (F := F) c = .ret ⟨⟩ from rfl, wp_ret]
    unfold post
    simp only [liftTc_tc]
    iintro ⟨H, HO⟩
    imodintro
    isplitl [H]; · iexact H
    iexists ∅; iexact HO
  · iintro ⟨H, -, -⟩ %s HS
    ihave H := (pointsTo_read_all Finset.univ (fun c : Dev nD => (c.tc : Thread nD τ).loc main_arg0)
        (fun c => m ((c.tc : Thread nD τ).loc main_arg0)) s) $$ [H HS]
    · isplitl [H]
      · iapply (show (bigSep Finset.univ (kept m) : sProp 𝕄)
          ⊢ bigSep Finset.univ fun c : Dev nD => (c.tc : Thread nD τ).loc main_arg0 ↦{fullShare} m ((c.tc : Thread nD τ).loc main_arg0) from .rfl)
        iexact H
      iexact HS
    icases H with ⟨%h, -⟩
    imodintro
    ipureintro
    exact h

end Cert.WholeArray

end
-- ==== Proof.lean ====
/-
  The claims. The kernel's text and its idealization are the same operations, so one run theorem, for any reading of the
  float types, serves both; the value claim is that run at the ideal reading and that the gathered array is the
  whole array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Whole
public import proofs.«01_k».proof.Proof.Reference
public import Idealize.ShloMosaic.Adequacy
public import Idealize.ShloMosaic.Init

@[expose] public section

noncomputable section

namespace Cert.Proof

open Idealize.ShloMosaic Idealize.SL.Sem

/-- What every run of the kernel ends with, in the program as printed for the idealization, under any float reading. -/
theorem kernel_run {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono (fun _ h => ⟨fun c => (h.1 c).1, h.2⟩) (Cert.AllGather.run_main m g)

theorem quiescent_kernel : Cert.quiescent_Kernel := fun m g _ => kernel_run (F := Bits) m g

theorem quiescent_kernelIdeal : Cert.quiescent_KernelIdeal := fun m g _ => kernel_run m g

theorem quiescent_reference : Cert.quiescent_ReferenceIdeal := fun m g _ => Cert.WholeArray.run_main m g

theorem algebraic : Cert.algebraic_KernelIdeal_ReferenceIdeal := fun m g m' g' _ h =>
  ⟨m' (((0 : Dev Cert.ReferenceIdeal.nD).tc : Thread Cert.ReferenceIdeal.nD Cert.ReferenceIdeal.τ).loc Cert.ReferenceIdeal.main_arg0),
    (θ_run _ _ _).mono (fun _ hr c => ⟨(hr.1 c).2.trans (Cert.AllGather.gathered_whole m _ h c), (hr.1 c).1⟩)
      (Cert.AllGather.run_main m g),
    (θ_run _ _ _).mono (fun _ hr => ⟨hr.1 0, hr.1 0⟩) (Cert.WholeArray.run_main m' g')⟩

theorem claim : Cert.Claim :=
  ⟨Cert.Kernel.Gen.facts, Cert.KernelIdeal.Gen.facts, Cert.ReferenceIdeal.Gen.facts,
    quiescent_kernel, quiescent_kernelIdeal, quiescent_reference, trivial, algebraic⟩

end Cert.Proof

end
